-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x12x2048x64 : Shape := ⟨4, ![1, 12, 2048, 64]⟩
abbrev S1x12x2048x2048 : Shape := ⟨4, ![1, 12, 2048, 2048]⟩
abbrev S12x2048x64 : Shape := ⟨3, ![12, 2048, 64]⟩
abbrev S12x2048x2048 : Shape := ⟨3, ![12, 2048, 2048]⟩
abbrev S1x128x64 : Shape := ⟨3, ![1, 128, 64]⟩
abbrev S1x2048x64 : Shape := ⟨3, ![1, 2048, 64]⟩
abbrev S128x64 : Shape := ⟨2, ![128, 64]⟩
abbrev S128x1x64 : Shape := ⟨3, ![128, 1, 64]⟩
abbrev S128x1 : Shape := ⟨2, ![128, 1]⟩
abbrev S128x1x1 : Shape := ⟨3, ![128, 1, 1]⟩
abbrev S1x128x1 : Shape := ⟨3, ![1, 128, 1]⟩
abbrev S128x128x1 : Shape := ⟨3, ![128, 128, 1]⟩
abbrev S128x128x64 : Shape := ⟨3, ![128, 128, 64]⟩
abbrev S1x128x2048 : Shape := ⟨3, ![1, 128, 2048]⟩
abbrev S128x2048 : Shape := ⟨2, ![128, 2048]⟩
abbrev S128 : Shape := ⟨1, ![128]⟩

abbrev nBuf : Space → Nat
  | .hbm => 11
  | .vmem => 24
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x2048, .i1⟩
  | .hbm, ⟨3, _⟩ => ⟨S12x2048x64, .f32⟩
  | .hbm, ⟨4, _⟩ => ⟨S12x2048x64, .f32⟩
  | .hbm, ⟨5, _⟩ => ⟨S12x2048x2048, .i1⟩
  | .hbm, ⟨6, _⟩ => ⟨S12x2048x64, .i32⟩
  | .hbm, ⟨7, _⟩ => ⟨S12x2048x64, .i32⟩
  | .hbm, ⟨8, _⟩ => ⟨S12x2048x2048, .i32⟩
  | .hbm, ⟨9, _⟩ => ⟨S12x2048x2048, .f32⟩
  | .hbm, ⟨10, _⟩ => ⟨S1x12x2048x2048, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S1x128x64, .i32⟩
  | .local _ .vmem, ⟨9, _⟩ => ⟨S1x128x64, .i32⟩
  | .local _ .vmem, ⟨10, _⟩ => ⟨S1x128x64, .i32⟩
  | .local _ .vmem, ⟨11, _⟩ => ⟨S1x128x64, .i32⟩
  | .local _ .vmem, ⟨12, _⟩ => ⟨S1x128x64, .f32⟩
  | .local _ .vmem, ⟨13, _⟩ => ⟨S1x128x64, .f32⟩
  | .local _ .vmem, ⟨14, _⟩ => ⟨S1x128x64, .i32⟩
  | .local _ .vmem, ⟨15, _⟩ => ⟨S1x128x64, .i32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .i32⟩
  | .local _ .vmem, ⟨19, _⟩ => ⟨S1x2048x64, .i32⟩
  | .local _ .vmem, ⟨20, _⟩ => ⟨S1x128x2048, .i32⟩
  | .local _ .vmem, ⟨21, _⟩ => ⟨S1x128x2048, .i32⟩
  | .local _ .vmem, ⟨22, _⟩ => ⟨S1x128x2048, .f32⟩
  | .local _ .vmem, ⟨23, _⟩ => ⟨S1x128x2048, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![12, 16], ![false, false]⟩

@[reducible] def k0_t1_loop : Scf.Loop 32 :=
  let c0_i32_5 : BitVec 32 := 0#32
  let c16_i32 : BitVec 32 := 16#32
  let v12 : BitVec 32 := Scalar.addi c0_i32_5 c16_i32
  let c1_i32 : BitVec 32 := 1#32
  ⟨c0_i32_5, v12, c1_i32⟩
def k0_off1 (k0_t1 : Fin k0_t1_loop.trips) : Fin 3 → Nat :=
  let c0_14 : Index := 0#32
  let c0_i32_5 : BitVec 32 := 0#32
  let c1_i32 : BitVec 32 := 1#32
  let arg8 : BitVec 32 := Scf.iv c0_i32_5 c1_i32 k0_t1
  let c128_i32_13 : BitVec 32 := 128#32
  let v20 : BitVec 32 := Scalar.muli arg8 c128_i32_13
  let v21 : Index := Scalar.indexCast v20
  let c0_15 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x64 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![12, 16], ![false, false]⟩

@[reducible] def k1_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k1_off1 (k1_t1 : Fin k1_t1_loop.trips) : Fin 3 → Nat :=
  let c0_82 : Index := 0#32
  let c0_i32_2 : BitVec 32 := 0#32
  let c1_i32 : BitVec 32 := 1#32
  let arg8 : BitVec 32 := Scf.iv c0_i32_2 c1_i32 k1_t1
  let c128_i32 : BitVec 32 := 128#32
  let v858 : BitVec 32 := Scalar.muli arg8 c128_i32
  let v859 : Index := Scalar.indexCast v858
  let c0_83 : Index := 0#32
  ![0, v859.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x64 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S1x12x2048x64 : Shape := ⟨4, ![1, 12, 2048, 64]⟩
abbrev S1x12x2048x2048 : Shape := ⟨4, ![1, 12, 2048, 2048]⟩
abbrev S12x2048x64 : Shape := ⟨3, ![12, 2048, 64]⟩
abbrev S12x2048x2048 : Shape := ⟨3, ![12, 2048, 2048]⟩
abbrev S_ : Shape := ⟨0, ![]⟩
abbrev S12x2048x64x1 : Shape := ⟨4, ![12, 2048, 64, 1]⟩
abbrev S1 : Shape := ⟨1, ![1]⟩
abbrev S1x1x1x1 : Shape := ⟨4, ![1, 1, 1, 1]⟩
abbrev S12 : Shape := ⟨1, ![12]⟩
abbrev S12x1x1 : Shape := ⟨3, ![12, 1, 1]⟩
abbrev S12x2048x64x3 : Shape := ⟨4, ![12, 2048, 64, 3]⟩

abbrev nBuf : Space → Nat
  | .hbm => 98
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x2048, .i1⟩
  | .hbm, ⟨3, _⟩ => ⟨S12x2048x64, .f32⟩
  | .hbm, ⟨4, _⟩ => ⟨S12x2048x64, .f32⟩
  | .hbm, ⟨5, _⟩ => ⟨S12x2048x2048, .i1⟩
  | .hbm, ⟨6, _⟩ => ⟨S12x2048x64, .i32⟩
  | .hbm, ⟨7, _⟩ => ⟨S12x2048x64, .f32⟩
  | .hbm, ⟨8, _⟩ => ⟨S12x2048x64, .i32⟩
  | .hbm, ⟨9, _⟩ => ⟨S12x2048x64, .i32⟩
  | .hbm, ⟨10, _⟩ => ⟨S12x2048x64, .f32⟩
  | .hbm, ⟨11, _⟩ => ⟨S12x2048x64, .i32⟩
  | .hbm, ⟨12, _⟩ => ⟨S_, .i32⟩
  | .hbm, ⟨13, _⟩ => ⟨S12x2048x64, .i32⟩
  | .hbm, ⟨14, _⟩ => ⟨S12x2048x64, .i1⟩
  | .hbm, ⟨15, _⟩ => ⟨S_, .i32⟩
  | .hbm, ⟨16, _⟩ => ⟨S12x2048x64, .i32⟩
  | .hbm, ⟨17, _⟩ => ⟨S12x2048x64, .i32⟩
  | .hbm, ⟨18, _⟩ => ⟨S12x2048x64, .i32⟩
  | .hbm, ⟨19, _⟩ => ⟨S12x2048x64x1, .i32⟩
  | .hbm, ⟨20, _⟩ => ⟨S1, .i32⟩
  | .hbm, ⟨21, _⟩ => ⟨S_, .i32⟩
  | .hbm, ⟨22, _⟩ => ⟨S12x2048x64x1, .i32⟩
  | .hbm, ⟨23, _⟩ => ⟨S12x2048x64x1, .i1⟩
  | .hbm, ⟨24, _⟩ => ⟨S1x1x1x1, .i32⟩
  | .hbm, ⟨25, _⟩ => ⟨S12x2048x64x1, .i32⟩
  | .hbm, ⟨26, _⟩ => ⟨S12x2048x64x1, .i1⟩
  | .hbm, ⟨27, _⟩ => ⟨S12x2048x64x1, .i1⟩
  | .hbm, ⟨28, _⟩ => ⟨S_, .i1⟩
  | .hbm, ⟨29, _⟩ => ⟨S12x2048x64, .i1⟩
  | .hbm, ⟨30, _⟩ => ⟨S12x2048x64, .f32⟩
  | .hbm, ⟨31, _⟩ => ⟨S_, .f32⟩
  | .hbm, ⟨32, _⟩ => ⟨S12x2048x64, .f32⟩
  | .hbm, ⟨33, _⟩ => ⟨S12x2048x64, .f32⟩
  | .hbm, ⟨34, _⟩ => ⟨S_, .i32⟩
  | .hbm, ⟨35, _⟩ => ⟨S12x2048x64, .i32⟩
  | .hbm, ⟨36, _⟩ => ⟨S12x2048x64, .i1⟩
  | .hbm, ⟨37, _⟩ => ⟨S_, .i32⟩
  | .hbm, ⟨38, _⟩ => ⟨S12x2048x64, .i32⟩
  | .hbm, ⟨39, _⟩ => ⟨S12x2048x64, .i32⟩
  | .hbm, ⟨40, _⟩ => ⟨S12x2048x64, .i32⟩
  | .hbm, ⟨41, _⟩ => ⟨S12x2048x64x1, .i32⟩
  | .hbm, ⟨42, _⟩ => ⟨S1, .i32⟩
  | .hbm, ⟨43, _⟩ => ⟨S_, .i32⟩
  | .hbm, ⟨44, _⟩ => ⟨S12x2048x64x1, .i32⟩
  | .hbm, ⟨45, _⟩ => ⟨S12x2048x64x1, .i1⟩
  | .hbm, ⟨46, _⟩ => ⟨S1x1x1x1, .i32⟩
  | .hbm, ⟨47, _⟩ => ⟨S12x2048x64x1, .i32⟩
  | .hbm, ⟨48, _⟩ => ⟨S12x2048x64x1, .i1⟩
  | .hbm, ⟨49, _⟩ => ⟨S12x2048x64x1, .i1⟩
  | .hbm, ⟨50, _⟩ => ⟨S_, .i1⟩
  | .hbm, ⟨51, _⟩ => ⟨S12x2048x64, .i1⟩
  | .hbm, ⟨52, _⟩ => ⟨S12x2048x64, .f32⟩
  | .hbm, ⟨53, _⟩ => ⟨S_, .f32⟩
  | .hbm, ⟨54, _⟩ => ⟨S12x2048x64, .f32⟩
  | .hbm, ⟨55, _⟩ => ⟨S12x2048x64, .f32⟩
  | .hbm, ⟨56, _⟩ => ⟨S12x2048x64, .f32⟩
  | .hbm, ⟨57, _⟩ => ⟨S12x2048x64, .f32⟩
  | .hbm, ⟨58, _⟩ => ⟨S12x2048x64, .f32⟩
  | .hbm, ⟨59, _⟩ => ⟨S12x2048x64, .f32⟩
  | .hbm, ⟨60, _⟩ => ⟨S12, .i32⟩
  | .hbm, ⟨61, _⟩ => ⟨S12x1x1, .i32⟩
  | .hbm, ⟨62, _⟩ => ⟨S12x2048x64, .i32⟩
  | .hbm, ⟨63, _⟩ => ⟨S_, .f32⟩
  | .hbm, ⟨64, _⟩ => ⟨S12x2048x2048, .f32⟩
  | .hbm, ⟨65, _⟩ => ⟨S_, .i32⟩
  | .hbm, ⟨66, _⟩ => ⟨S12x2048x64, .i32⟩
  | .hbm, ⟨67, _⟩ => ⟨S12x2048x64, .i1⟩
  | .hbm, ⟨68, _⟩ => ⟨S_, .i32⟩
  | .hbm, ⟨69, _⟩ => ⟨S12x2048x64, .i32⟩
  | .hbm, ⟨70, _⟩ => ⟨S12x2048x64, .i32⟩
  | .hbm, ⟨71, _⟩ => ⟨S12x2048x64, .i32⟩
  | .hbm, ⟨72, _⟩ => ⟨S_, .i32⟩
  | .hbm, ⟨73, _⟩ => ⟨S12x2048x64, .i32⟩
  | .hbm, ⟨74, _⟩ => ⟨S12x2048x64, .i1⟩
  | .hbm, ⟨75, _⟩ => ⟨S_, .i32⟩
  | .hbm, ⟨76, _⟩ => ⟨S12x2048x64, .i32⟩
  | .hbm, ⟨77, _⟩ => ⟨S12x2048x64, .i32⟩
  | .hbm, ⟨78, _⟩ => ⟨S12x2048x64, .i32⟩
  | .hbm, ⟨79, _⟩ => ⟨S_, .i32⟩
  | .hbm, ⟨80, _⟩ => ⟨S12x2048x64, .i32⟩
  | .hbm, ⟨81, _⟩ => ⟨S12x2048x64, .i1⟩
  | .hbm, ⟨82, _⟩ => ⟨S_, .i32⟩
  | .hbm, ⟨83, _⟩ => ⟨S12x2048x64, .i32⟩
  | .hbm, ⟨84, _⟩ => ⟨S12x2048x64, .i32⟩
  | .hbm, ⟨85, _⟩ => ⟨S12x2048x64, .i32⟩
  | .hbm, ⟨86, _⟩ => ⟨S12x2048x64x1, .i32⟩
  | .hbm, ⟨87, _⟩ => ⟨S12x2048x64x1, .i32⟩
  | .hbm, ⟨88, _⟩ => ⟨S12x2048x64x1, .i32⟩
  | .hbm, ⟨89, _⟩ => ⟨S12x2048x64x3, .i32⟩
  | .hbm, ⟨90, _⟩ => ⟨S12x2048x2048, .f32⟩
  | .hbm, ⟨91, _⟩ => ⟨S_, .f32⟩
  | .hbm, ⟨92, _⟩ => ⟨S12x2048x2048, .f32⟩
  | .hbm, ⟨93, _⟩ => ⟨S12x2048x2048, .f32⟩
  | .hbm, ⟨94, _⟩ => ⟨S_, .f32⟩
  | .hbm, ⟨95, _⟩ => ⟨S12x2048x2048, .f32⟩
  | .hbm, ⟨96, _⟩ => ⟨S12x2048x2048, .f32⟩
  | .hbm, ⟨97, _⟩ => ⟨S1x12x2048x2048, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1_0 : Ref sig .tc := ⟨.hbm, 7, rfl⟩
abbrev main_v3 : Ref sig .tc := ⟨.hbm, 8, rfl⟩
abbrev main_call1_v0 : Ref sig .tc := ⟨.hbm, 9, rfl⟩
abbrev main_call1_v1_0 : Ref sig .tc := ⟨.hbm, 10, rfl⟩
abbrev main_v4 : Ref sig .tc := ⟨.hbm, 11, rfl⟩
abbrev main_call2_c : Ref sig .tc := ⟨.hbm, 12, rfl⟩
abbrev main_call2_v0 : Ref sig .tc := ⟨.hbm, 13, rfl⟩
abbrev main_call2_v1 : Ref sig .tc := ⟨.hbm, 14, rfl⟩
abbrev main_call2_c_0 : Ref sig .tc := ⟨.hbm, 15, rfl⟩
abbrev main_call2_v2 : Ref sig .tc := ⟨.hbm, 16, rfl⟩
abbrev main_call2_v3 : Ref sig .tc := ⟨.hbm, 17, rfl⟩
abbrev main_call2_v4 : Ref sig .tc := ⟨.hbm, 18, rfl⟩
abbrev main_call2_v5 : Ref sig .tc := ⟨.hbm, 19, rfl⟩
abbrev main_call2_c_1 : Ref sig .tc := ⟨.hbm, 20, rfl⟩
abbrev main_call2_c_2 : Ref sig .tc := ⟨.hbm, 21, rfl⟩
abbrev main_call2_v6 : Ref sig .tc := ⟨.hbm, 22, rfl⟩
abbrev main_call2_v7 : Ref sig .tc := ⟨.hbm, 23, rfl⟩
abbrev main_call2_v8 : Ref sig .tc := ⟨.hbm, 24, rfl⟩
abbrev main_call2_v9 : Ref sig .tc := ⟨.hbm, 25, rfl⟩
abbrev main_call2_v10 : Ref sig .tc := ⟨.hbm, 26, rfl⟩
abbrev main_call2_v11 : Ref sig .tc := ⟨.hbm, 27, rfl⟩
abbrev main_call2_c_3 : Ref sig .tc := ⟨.hbm, 28, rfl⟩
abbrev main_call2_v12 : Ref sig .tc := ⟨.hbm, 29, rfl⟩
abbrev main_call2_v13 : Ref sig .tc := ⟨.hbm, 30, rfl⟩
abbrev main_call2_cst : Ref sig .tc := ⟨.hbm, 31, rfl⟩
abbrev main_call2_v14 : Ref sig .tc := ⟨.hbm, 32, rfl⟩
abbrev main_v5 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_cst : Ref sig .tc := ⟨.hbm, 53, rfl⟩
abbrev main_call3_v14 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst : Ref sig .tc := ⟨.hbm, 63, rfl⟩
abbrev main_v14 : Ref sig .tc := ⟨.hbm, 64, rfl⟩
abbrev main_c : Ref sig .tc := ⟨.hbm, 65, rfl⟩
abbrev main_v15 : Ref sig .tc := ⟨.hbm, 66, rfl⟩
abbrev main_v16 : Ref sig .tc := ⟨.hbm, 67, rfl⟩
abbrev main_c_0 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_c_1 : Ref sig .tc := ⟨.hbm, 72, rfl⟩
abbrev main_v20 : Ref sig .tc := ⟨.hbm, 73, rfl⟩
abbrev main_v21 : Ref sig .tc := ⟨.hbm, 74, rfl⟩
abbrev main_c_2 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_c_3 : Ref sig .tc := ⟨.hbm, 79, rfl⟩
abbrev main_v25 : Ref sig .tc := ⟨.hbm, 80, rfl⟩
abbrev main_v26 : Ref sig .tc := ⟨.hbm, 81, rfl⟩
abbrev main_c_4 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_5 : Ref sig .tc := ⟨.hbm, 91, rfl⟩
abbrev main_v35 : Ref sig .tc := ⟨.hbm, 92, rfl⟩
abbrev main_v36 : Ref sig .tc := ⟨.hbm, 93, rfl⟩
abbrev main_cst_6 : Ref sig .tc := ⟨.hbm, 94, rfl⟩
abbrev main_call4_v0 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]
-- ==== Proof.Ranks.lean ====
module

public import Idealize.ShloMosaic.Lib.SortFacts
public import Idealize.ShloMosaic.Lib.SortPrefix
public import Mathlib.Data.EReal.Operations

@[expose] public section

noncomputable section

namespace Cert.Ranks

open Idealize.ShloMosaic

/-- A column of 2048 extended reals. -/
abbrev Col := Fin 2048 → EReal

/-- Position `j` comes before position `i`: a smaller value, or an equal value at an earlier position. -/
def before (x : Col) (j i : Fin 2048) : Prop := x j < x i ∨ (x j = x i ∧ j < i)

open Classical in
/-- The rank of position `i`: how many positions come before it. -/
def rank (x : Col) (i : Fin 2048) : ℕ := (Finset.univ.filter fun j => before x j i).card

open Classical in
/-- The position whose value a stable ascending sort puts at place `p`. -/
def place (x : Col) (p : Fin 2048) : Fin 2048 := sortedFrom (fun j i => decide (x j < x i)) p

open Classical in
/-- `before` as a Boolean relation. -/
def beforeB (x : Col) (j i : Fin 2048) : Bool := decide (before x j i)

/-- `beforeB` says `before`. -/
theorem beforeB_iff (x : Col) (j i : Fin 2048) : beforeB x j i = true ↔ before x j i := by
  unfold beforeB; simp only [decide_eq_true_eq]

/-- `before` is a strict total order on the positions. -/
theorem beforeB_total (x : Col) : StrictTotalBefore (beforeB x) where
  irrefl a := by
    rw [Bool.eq_false_iff, ne_eq, beforeB_iff]
    simp [before]
  trans a b c := by
    simp only [beforeB_iff, before]
    rintro (h1 | ⟨h1, h2⟩) (h3 | ⟨h3, h4⟩)
    · exact Or.inl (h1.trans h3)
    · exact Or.inl (h3 ▸ h1)
    · exact Or.inl (h1 ▸ h3)
    · exact Or.inr ⟨h1.trans h3, h2.trans h4⟩
  total a b hab := by
    simp only [beforeB_iff, before]
    rcases lt_trichotomy (x a) (x b) with h | h | h
    · exact Or.inl (Or.inl h)
    · rcases lt_or_gt_of_ne hab with h' | h'
      · exact Or.inl (Or.inr ⟨h, h'⟩)
      · exact Or.inr (Or.inr ⟨h.symm, h'⟩)
    · exact Or.inr (Or.inl h)

open Classical in
/-- On a list of increasing positions the stable sort by value alone is the sort by `before`: a position is inserted
    only among later ones. -/
theorem stableSort_value_eq (x : Col) (l : List (Fin 2048)) (hl : l.Pairwise (· < ·)) :
    stableSort (fun j i => decide (x j < x i)) l = stableSort (beforeB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have hba : ¬ b < a := not_lt.mpr hab.le
    simp [beforeB, before, hba]

/-- The stable sort by value alone is the sort by `before`. -/
theorem place_eq (x : Col) : place x = sortedFrom (beforeB x) := by
  funext p
  have h : sortPositions 2048 (fun j i => decide (x j < x i)) = sortPositions 2048 (beforeB x) := by
    unfold sortPositions
    exact stableSort_value_eq x _ (List.pairwise_lt_finRange 2048)
  unfold place sortedFrom
  rw [List.get_of_eq h]
  simp only [List.get_eq_getElem, Fin.val_cast]

/-- A sort is a permutation of the positions. -/
theorem place_injective (x : Col) : Function.Injective (place x) := sortedFrom_injective _

/-- Every position is put at some place. -/
theorem place_surjective (x : Col) : Function.Surjective (place x) := sortedFrom_surjective _

/-- Of two places the earlier holds the position that comes before. -/
theorem before_place {x : Col} {p p' : Fin 2048} (h : p < p') : before x (place x p) (place x p') := by
  have hB := beforeB_total x
  have h1 := sortedFrom_noInversion (beforeB x) (beforeB x) (fun a b => hB.asymm a b) (fun _ _ h => h) hB.negTrans p p' h
  rw [← place_eq] at h1
  rcases hB.total (place x p) (place x p') (fun e => absurd (place_injective x e) h.ne) with h2 | h2
  · exact (beforeB_iff _ _ _).mp h2
  · rw [h1] at h2; exact absurd h2 (by decide)

/-- Two places are ordered as the positions they hold. -/
theorem before_place_iff (x : Col) (p p' : Fin 2048) : before x (place x p) (place x p') ↔ p < p' := by
  refine ⟨fun h => ?_, before_place⟩
  by_contra hn
  have hB := beforeB_total x
  have h1 : beforeB x (place x p) (place x p') = true := (beforeB_iff _ _ _).mpr h
  rcases (not_lt.mp hn).lt_or_eq with hlt | he
  · have h2 : beforeB x (place x p') (place x p) = true := (beforeB_iff _ _ _).mpr (before_place hlt)
    rw [hB.asymm _ _ h2] at h1; exact absurd h1 (by decide)
  · rw [he, hB.irrefl] at h1; exact absurd h1 (by decide)

/-- The rank of the position at place `p` is `p`. -/
theorem rank_place (x : Col) (p : Fin 2048) : rank x (place x p) = p.val := by
  classical
  unfold rank
  have e : (Finset.univ.filter fun j => before x j (place x p)) = (Finset.Iio p).image (place x) := by
    ext j
    obtain ⟨k, rfl⟩ := place_surjective x j
    simp only [Finset.mem_filter, Finset.mem_univ, true_and, before_place_iff, Finset.mem_image, Finset.mem_Iio]
    exact ⟨fun h => ⟨k, h, rfl⟩, fun ⟨k', h, e⟩ => place_injective x e ▸ h⟩
  rw [e, Finset.card_image_of_injective _ (place_injective x), Fin.card_Iio]

/-- A rank is a place: below 2048. -/
theorem rank_lt (x : Col) (i : Fin 2048) : rank x i < 2048 := by
  obtain ⟨p, rfl⟩ := place_surjective x i
  rw [rank_place]; exact p.isLt

/-- The rank of a position, as a place. -/
def rankF (x : Col) (i : Fin 2048) : Fin 2048 := ⟨rank x i, rank_lt x i⟩

/-- A position is the one at place `p` exactly when its rank is `p`. -/
theorem rankF_eq_iff (x : Col) (i p : Fin 2048) : rankF x i = p ↔ place x p = i := by
  constructor
  · obtain ⟨p', rfl⟩ := place_surjective x i
    intro h
    have h' : p' = p := by rw [← h]; exact Fin.ext (rank_place x p').symm
    rw [h']
  · rintro rfl; exact Fin.ext (rank_place x p)

/-- The sort puts a position at its rank. -/
theorem place_rankF (x : Col) (i : Fin 2048) : place x (rankF x i) = i := (rankF_eq_iff x i _).mp rfl

end Cert.Ranks

end
-- ==== Proof.Chunks.lean ====
module

public import Idealize.ShloMosaic.PureOps.Reduce
public import Idealize.ShloMosaic.PureOps.Ideal
public import Mathlib.Data.BitVec

@[expose] public section

noncomputable section

namespace Cert.Chunks

open Idealize.ShloMosaic

variable {M : Type} [AddCommMonoid M]

/-- The sum of the first `n` of 2048 terms. -/
def upTo (g : Fin 2048 → M) (n : ℕ) : M := ∑ x ∈ Finset.range n, if h : x < 2048 then g ⟨x, h⟩ else 0

/-- No term. -/
theorem upTo_zero (g : Fin 2048 → M) : upTo g 0 = 0 := by simp [upTo]

/-- Chunk `k` of 128 terms added to the chunks before it. -/
theorem upTo_succ (g : Fin 2048 → M) (k : ℕ) (hk : k < 16) :
    upTo g (128 * (k + 1)) = upTo g (128 * k) + ∑ x : Fin 128, g ⟨128 * k + x.val, by have := x.isLt; omega⟩ := by
  unfold upTo
  rw [show 128 * (k + 1) = 128 * k + 128 by ring, Finset.sum_range_add, Finset.sum_range]
  congr 1
  rw [Finset.sum_range]
  refine Finset.sum_congr rfl fun x _ => dif_pos _

/-- All the terms. -/
theorem upTo_all (g : Fin 2048 → M) : upTo g 2048 = ∑ j, g j := by
  unfold upTo
  rw [Finset.sum_range]
  exact Finset.sum_congr rfl fun x _ => dif_pos x.isLt

/-- A fold by word addition from zero is the sum of the words. -/
theorem fold_addi {ι : Type} (S : Finset ι) (g : ι → BitVec 32) : S.fold IntOp.addi 0#32 g = ∑ i ∈ S, g i := by
  classical
  induction S using Finset.induction_on with
  | empty => rfl
  | insert a S ha ih => rw [Finset.fold_insert ha, Finset.sum_insert ha, ih]; rfl

end Cert.Chunks

end
-- ==== Proof.RankBlock.lean ====
module

public import proofs.«01_k».proof.Proof.Gen.KernelIdeal.Frame
public import proofs.«01_k».proof.Proof.Ranks
public import proofs.«01_k».proof.Proof.Chunks
public import Idealize.ShloMosaic.Lib.Pipeline.ValueKit
public import Idealize.ShloMosaic.Lib.Pointwise
public import Idealize.ShloMosaic.Lib.WholeRead
public import Idealize.ShloMosaic.Lib.WordArith.Masks

@[expose] public section

set_option maxRecDepth 16384

noncomputable section

namespace Cert.KernelIdeal.Gen

open Idealize.ShloMosaic Idealize.ShloMosaic.TcCoe Idealize.ShloMosaic.Tactic Idealize.ShloMosaic.Pipeline
open Cert.Ranks Cert.Chunks
open Idealize.ShloMosaic.WordCmp

open Classical in
/-- One comparison of the rank count: 1 when position `j` comes before position `i`, else 0. -/
def mark (x : Col) (i j : Fin 2048) : BitVec 32 := if before x j i then 1#32 else 0#32

/-- The printed comparison of two values and their positions is `mark`. -/
theorem mark_eq (x : Col) (i j : Fin 2048) (a b : EReal) (ha : a = x j) (hb : b = x i) (wj wi : BitVec 32)
    (hj : wj = BitVec.ofNat 32 j.val) (hi : wi = BitVec.ofNat 32 i.val) :
    Scalar.select (IntOp.ori (BitVec.ofBool (decide (a < b))) (IntOp.andi (BitVec.ofBool (decide (a = b)))
      (IntOp.cmpi CmpIPredicate.slt wj wi))) 1#32 0#32 = mark x i j := by
  subst ha hb hj hi
  rw [cmpi_slt_ofNat (by have := j.isLt; omega) (by have := i.isLt; omega)]
  unfold mark before
  by_cases h1 : x j < x i <;> by_cases h2 : x j = x i <;> by_cases h3 : j < i <;>
    simp [h1, h2, h3, Scalar.select, IntOp.ori, IntOp.andi]

/-- Word addition, as the `+` of words. -/
theorem addi_add (a b : BitVec 32) : IntOp.addi a b = a + b := rfl

/-- The word of position `128 k + l`, as the loop computes it. -/
theorem pos_word (k l : ℕ) : IntOp.addi (Scalar.muli (Scf.iv 0#32 1#32 k) 128#32) (BitVec.ofNat 32 l) = BitVec.ofNat 32 (128 * k + l) := by
  have h : Scf.iv 0#32 1#32 k = BitVec.ofNat 32 k := by simp [Scf.iv]
  rw [h]
  show BitVec.ofNat 32 k * 128#32 + BitVec.ofNat 32 l = _
  rw [BitVec.ofNat_add, BitVec.ofNat_mul, BitVec.mul_comm]

/-- The word of row `128 i + r` of a block, as the kernel computes it. -/
theorem row_word (i r : ℕ) : IntOp.addi (Scalar.muli (BitVec.ofNat 32 i) 128#32) (BitVec.ofNat 32 r) = BitVec.ofNat 32 (128 * i + r) := by
  show BitVec.ofNat 32 i * 128#32 + BitVec.ofNat 32 r = _
  rw [BitVec.ofNat_add, BitVec.ofNat_mul, BitVec.mul_comm]

/-- The value one trip of the rank loop leaves at row `r`, feature `f`, as the printed operations spell it. -/
def rankTrip (v2 : FVec Ideal S128x1x64 .f32) (v10 : IVec S128x1x1 32) (k : Fin k0_t1_loop.trips) (acc : IVec S128x64 32)
    (v22 : Vec Ideal S1x128x64 .f32) (r : Fin 128) (f : Fin 64) : BitVec 32 :=
  IntOp.addi (acc (ix2 r f)) (Finset.fold IntOp.addi 0#32 (fun x : Fin 128 => Scalar.select
      (IntOp.ori (BitVec.ofBool (decide (v22 (ix3 0 x f) < v2 (ix3 r 0 f)))) (IntOp.andi
      (BitVec.ofBool (decide (v22 (ix3 0 x f) = v2 (ix3 r 0 f)))) (IntOp.cmpi .slt (IntOp.addi
      (Scalar.muli (Scf.iv 0#32 1#32 k.val) 128#32) (BitVec.ofNat 32 x.val)) (v10 (ix3 r 0 0))))) 1#32 0#32) Finset.univ)

/-- What one trip of the rank loop leaves at one element: the counter plus 128 comparisons. -/
theorem pay8_raw (v2 : FVec Ideal S128x1x64 .f32) (v10 : IVec S128x1x1 32) (k : Fin k0_t1_loop.trips) (acc : IVec S128x64 32)
    (v22 : Vec Ideal S1x128x64 .f32) (r : Fin 128) (f : Fin 64) :
    k0_pay8 v2 v10 0#32 1#32 k acc v22 (ix2 r f)
      = rankTrip v2 v10 k acc v22 r f := by
  have h : k0_pay8 v2 v10 0#32 1#32 k acc v22 = fun j => rankTrip v2 v10 k acc v22 (j 0) (j 1) := by
    funext j
    idx_vars j
    unfold rankTrip
    pointwise [k0_pay8, k0_pay7]
  exact congrFun h (ix2 r f)

/-- One trip of the rank loop adds the marks of its 128 positions. -/
theorem pay8_at (v2 : FVec Ideal S128x1x64 .f32) (v10 : IVec S128x1x1 32) (k : Fin k0_t1_loop.trips) (acc : IVec S128x64 32)
    (v22 : Vec Ideal S1x128x64 .f32) (x : Col) (i : Fin 2048) (r : Fin 128) (f : Fin 64) (hk : k.val < 16)
    (h2 : v2 (ix3 r 0 f) = x i) (h10 : v10 (ix3 r 0 0) = BitVec.ofNat 32 i.val)
    (h22 : ∀ l : Fin 128, v22 (ix3 0 l f) = x ⟨128 * k.val + l.val, by have := l.isLt; omega⟩) :
    k0_pay8 v2 v10 0#32 1#32 k acc v22 (ix2 r f)
      = acc (ix2 r f) + ∑ l : Fin 128, mark x i ⟨128 * k.val + l.val, by have := l.isLt; omega⟩ := by
  rw [pay8_raw]
  unfold rankTrip
  rw [fold_addi, addi_add]
  refine congrArg (acc (ix2 r f) + ·) ?_
  refine Finset.sum_congr rfl fun l _ => ?_
  exact mark_eq x i _ _ _ (h22 l) h2 _ _ (pos_word k.val l.val) h10

/-- What one trip of the rank loop leaves at one element: the counter plus 128 comparisons. -/
theorem pay9_raw (v2 : FVec Ideal S128x1x64 .f32) (v10 : IVec S128x1x1 32) (k : Fin k0_t1_loop.trips) (acc : IVec S128x64 32)
    (v22 : Vec Ideal S1x128x64 .f32) (r : Fin 128) (f : Fin 64) :
    k0_pay9 v2 v10 0#32 1#32 k acc v22 (ix2 r f)
      = rankTrip v2 v10 k acc v22 r f := by
  have h : k0_pay9 v2 v10 0#32 1#32 k acc v22 = fun j => rankTrip v2 v10 k acc v22 (j 0) (j 1) := by
    funext j
    idx_vars j
    unfold rankTrip
    pointwise [k0_pay9, k0_pay7]
  exact congrFun h (ix2 r f)

/-- One trip of the rank loop adds the marks of its 128 positions. -/
theorem pay9_at (v2 : FVec Ideal S128x1x64 .f32) (v10 : IVec S128x1x1 32) (k : Fin k0_t1_loop.trips) (acc : IVec S128x64 32)
    (v22 : Vec Ideal S1x128x64 .f32) (x : Col) (i : Fin 2048) (r : Fin 128) (f : Fin 64) (hk : k.val < 16)
    (h2 : v2 (ix3 r 0 f) = x i) (h10 : v10 (ix3 r 0 0) = BitVec.ofNat 32 i.val)
    (h22 : ∀ l : Fin 128, v22 (ix3 0 l f) = x ⟨128 * k.val + l.val, by have := l.isLt; omega⟩) :
    k0_pay9 v2 v10 0#32 1#32 k acc v22 (ix2 r f)
      = acc (ix2 r f) + ∑ l : Fin 128, mark x i ⟨128 * k.val + l.val, by have := l.isLt; omega⟩ := by
  rw [pay9_raw]
  unfold rankTrip
  rw [fold_addi, addi_add]
  refine congrArg (acc (ix2 r f) + ·) ?_
  refine Finset.sum_congr rfl fun l _ => ?_
  exact mark_eq x i _ _ _ (h22 l) h2 _ _ (pos_word k.val l.val) h10

/-- One trip of the rank loop on `q`: it adds the marks of positions `128 k … 128 k + 127`. -/
theorem trip0_q (i : grid0.Coords) (m : Memref sig .tc .vmem S1x2048x64 .f32) (hm : m.IsWhole)
    (v0 : Vec Ideal S1x128x64 .f32) (X : Vec Ideal S1x2048x64 .f32) (k : Fin k0_t1_loop.trips)
    (acc : IVec S128x64 32 × IVec S128x64 32) (r : Fin 128) (f : Fin 64) (q : Fin 2048) (hq : q.val = 128 * (i 1).val + r.val)
    (h0 : v0 (ix3 0 r f) = X (ix3 0 q f)) :
    trip_k0_t1.sl.r i m v0 (hm.unread X) k acc (ix2 r f)
      = acc.1 (ix2 r f) + ∑ l : Fin 128, mark (fun j => X (ix3 0 j f)) q ⟨128 * k.val + l.val, by
          have := l.isLt; have := Nat.lt_of_lt_of_le k.isLt k0_t1_abs.2.1; omega⟩ := by
  unfold trip_k0_t1.sl.r
  refine pay8_at _ _ k acc.1 _ (fun j => X (ix3 0 j f)) q r f (Nat.lt_of_lt_of_le k.isLt k0_t1_abs.2.1) ?_ ?_ fun l => ?_
  · refine Eq.trans ?_ h0
    clear h0 hq
    pointwise [k0_pay1]
  · rw [hq, ← row_word]
    clear h0 hq
    pointwise [k0_pay3]
  · rw [hm.readAt_unread]
    refine congrArg X ?_
    funext a
    apply Fin.ext
    have e := congrFun (k0_off1_eq k) a
    fin_cases a <;> simp [Rect.unit, LoadRect.idx] at e ⊢
    all_goals first | exact e | omega

/-- One trip of the rank loop on `k`: it adds the marks of positions `128 k … 128 k + 127`. -/
theorem trip0_k (i : grid0.Coords) (m : Memref sig .tc .vmem S1x2048x64 .f32) (hm : m.IsWhole)
    (v0 : Vec Ideal S1x128x64 .f32) (X : Vec Ideal S1x2048x64 .f32) (k : Fin k0_t1_loop.trips)
    (acc : IVec S128x64 32 × IVec S128x64 32) (r : Fin 128) (f : Fin 64) (q : Fin 2048) (hq : q.val = 128 * (i 1).val + r.val)
    (h0 : v0 (ix3 0 r f) = X (ix3 0 q f)) :
    trip_k0_t1.sl.r_1 i m v0 (hm.unread X) k acc (ix2 r f)
      = acc.2 (ix2 r f) + ∑ l : Fin 128, mark (fun j => X (ix3 0 j f)) q ⟨128 * k.val + l.val, by
          have := l.isLt; have := Nat.lt_of_lt_of_le k.isLt k0_t1_abs.2.1; omega⟩ := by
  unfold trip_k0_t1.sl.r_1
  refine pay9_at _ _ k acc.2 _ (fun j => X (ix3 0 j f)) q r f (Nat.lt_of_lt_of_le k.isLt k0_t1_abs.2.1) ?_ ?_ fun l => ?_
  · refine Eq.trans ?_ h0
    clear h0 hq
    pointwise [k0_pay2]
  · rw [hq, ← row_word]
    clear h0 hq
    pointwise [k0_pay3]
  · rw [hm.readAt_unread]
    refine congrArg X ?_
    funext a
    apply Fin.ext
    have e := congrFun (k0_off1_eq k) a
    fin_cases a <;> simp [Rect.unit, LoadRect.idx] at e ⊢
    all_goals first | exact e | omega

end Cert.KernelIdeal.Gen

end
-- ==== Proof.RankLoop.lean ====
module

public import proofs.«01_k».proof.Proof.RankBlock

@[expose] public section

set_option maxRecDepth 16384

noncomputable section

namespace Cert.KernelIdeal.Gen

open Idealize.ShloMosaic Idealize.ShloMosaic.TcCoe Idealize.ShloMosaic.Tactic Idealize.ShloMosaic.Pipeline
open Cert.Ranks Cert.Chunks

/-- The marks of all positions sum to the word of the rank. -/
theorem marks_all (x : Col) (i : Fin 2048) : upTo (mark x i) 2048 = BitVec.ofNat 32 (rank x i) := by
  classical
  rw [upTo_all]
  unfold mark rank
  refine (Finset.sum_boole (R := BitVec 32) (s := Finset.univ) (p := fun j => before x j i)).trans ?_
  simp only [BitVec.natCast_eq_ofNat]

/-- The rank loop makes sixteen trips. -/
theorem trips0 : k0_t1_loop.trips = 16 := by decide +kernel

section
variable (𝒱 : Variants) (c : Dev nD) (bd : Option 𝒱.V) (i : grid0.Coords)
  (m2 : Memref sig .tc .vmem S1x128x64 .f32) (h2 : m2.IsWhole) (m3 : Memref sig .tc .vmem S1x128x64 .f32) (h3 : m3.IsWhole)
  (m4 : Memref sig .tc .vmem S1x2048x64 .f32) (h4 : m4.IsWhole) (m5 : Memref sig .tc .vmem S1x2048x64 .f32) (h5 : m5.IsWhole)
  (m6 : Memref sig .tc .vmem S1x128x64 .i32) (h6 : m6.IsWhole) (m7 : Memref sig .tc .vmem S1x128x64 .i32) (h7 : m7.IsWhole)
  (v0 v3 : Vec Ideal S1x128x64 .f32) (X Y : Vec Ideal S1x2048x64 .f32)

/-- The two counters after `n` trips, at row `r` and feature `f`: each counts the marks of its own array's first `128 n`
positions. -/
theorem loop0 (r : Fin 128) (f : Fin 64) (q : Fin 2048) (hq : q.val = 128 * (i 1).val + r.val)
    (h0 : v0 (ix3 0 r f) = X (ix3 0 q f)) (h0' : v3 (ix3 0 r f) = Y (ix3 0 q f)) : ∀ n : ℕ, n ≤ 16 →
    (st_k0_t1 𝒱 c bd i m2 h2 m3 h3 m4 h4 m5 h5 m6 h6 m7 h7 v0 v3 (h4.unread X) (h5.unread Y) (k0_pay4, k0_pay4) n).1 (ix2 r f)
        = upTo (mark (fun j => X (ix3 0 j f)) q) (128 * n)
      ∧ (st_k0_t1 𝒱 c bd i m2 h2 m3 h3 m4 h4 m5 h5 m6 h6 m7 h7 v0 v3 (h4.unread X) (h5.unread Y) (k0_pay4, k0_pay4) n).2 (ix2 r f)
        = upTo (mark (fun j => Y (ix3 0 j f)) q) (128 * n)
  | 0, _ => by
    rw [st_k0_t1_zero, Nat.mul_zero, upTo_zero, upTo_zero]
    exact ⟨rfl, rfl⟩
  | n + 1, hn => by
    obtain ⟨e1, e2⟩ := loop0 r f q hq h0 h0' n (by omega)
    have hs := st_k0_t1_succ (F := Ideal) 𝒱 c bd i m2 h2 m3 h3 m4 h4 m5 h5 m6 h6 m7 h7 v0 v3 (h4.unread X) (h5.unread Y)
      (k0_pay4, k0_pay4) ⟨n, by rw [trips0]; omega⟩
    rw [show (⟨n, by rw [trips0]; omega⟩ : Fin k0_t1_loop.trips).val + 1 = n + 1 from rfl] at hs
    rw [hs, upTo_succ _ n (by omega), upTo_succ _ n (by omega), ← e1, ← e2]
    unfold tripR_k0_t1 trip_k0_t1
    dsimp only
    exact ⟨trip0_q i m4 h4 v0 X _ _ r f q hq h0, trip0_k i m5 h5 v3 Y _ _ r f q hq h0'⟩

end

end Cert.KernelIdeal.Gen

end
-- ==== Proof.RankArray.lean ====
module

public import proofs.«01_k».proof.Proof.RankLoop

@[expose] public section

set_option maxRecDepth 16384

noncomputable section

namespace Cert.KernelIdeal.Gen

open Idealize.ShloMosaic Idealize.ShloMosaic.TcCoe Idealize.ShloMosaic.Tactic Idealize.ShloMosaic.Pipeline
open Cert.Ranks Cert.Chunks

variable (V : (c : Dev nD) → (b : Ref sig .tc) → Buf (Elt Ideal) ((c : Thread nD τ).loc b))

/-- The stored rank block is the carried counter with a leading axis of one. -/
theorem pay5_at (v : IVec S128x64 32) (j : S1x128x64.Idx) : k0_pay5 v j = v (ix2 (j 1) (j 2)) := by
  idx_vars j
  pointwise [k0_pay5]

/-- The second stored rank block likewise. -/
theorem pay6_at (v : IVec S128x64 32) (j : S1x128x64.Idx) : k0_pay6 v j = v (ix2 (j 1) (j 2)) := by
  idx_vars j
  pointwise [k0_pay6]

/-- The word of each position's rank, feature by feature, in an array of 12 batches. -/
def rankWords (X : S12x2048x64.Idx → EReal) : S12x2048x64.Idx → BitVec 32 :=
  fun j => BitVec.ofNat 32 (rank (fun p => X (ix3 (j 0) p (j 2))) (j 1))

/-- Which block each window of the first pass addresses at a grid point: its batch, and (blocked windows) its row block. -/
theorem idx0 : ∀ t : Fin cfg0.N, (win0_0.index t = ![(grid0.coords t 0).val, (grid0.coords t 1).val, 0])
    ∧ (win0_1.index t = ![(grid0.coords t 0).val, (grid0.coords t 1).val, 0]) ∧ (win0_2.index t = ![(grid0.coords t 0).val, 0, 0])
    ∧ (win0_3.index t = ![(grid0.coords t 0).val, 0, 0]) ∧ (win0_4.index t = ![(grid0.coords t 0).val, (grid0.coords t 1).val, 0])
    ∧ (win0_5.index t = ![(grid0.coords t 0).val, (grid0.coords t 1).val, 0]) := (by decide +kernel : ∀ t : Fin grid0.N, _)

/-- Window 0's block at a grid point: 128 rows of a batch. -/
theorem iblk0_0 (c : Dev nD) (t : Fin cfg0.N) (r : Fin 128) (f : Fin 64) (b : Fin 12) (q : Fin 2048)
    (hb : b.val = (grid0.coords t 0).val) (hq : q.val = 128 * (grid0.coords t 1).val + r.val) :
    iblk0 V c 0 t (ix3 0 r f) = V c (arrRef spec0 0) (ix3 b q f) := by
  blk_ext [iblk0, idx0 t]

/-- Window 1's block at a grid point: 128 rows of a batch. -/
theorem iblk0_1 (c : Dev nD) (t : Fin cfg0.N) (r : Fin 128) (f : Fin 64) (b : Fin 12) (q : Fin 2048)
    (hb : b.val = (grid0.coords t 0).val) (hq : q.val = 128 * (grid0.coords t 1).val + r.val) :
    iblk0 V c 1 t (ix3 0 r f) = V c (arrRef spec0 1) (ix3 b q f) := by
  blk_ext [iblk0, idx0 t]

/-- Window 2's block at a grid point: a whole batch. -/
theorem iblk0_2 (c : Dev nD) (t : Fin cfg0.N) (j : Fin 2048) (f : Fin 64) (b : Fin 12)
    (hb : b.val = (grid0.coords t 0).val) :
    iblk0 V c 2 t (ix3 0 j f) = V c (arrRef spec0 2) (ix3 b j f) := by
  blk_ext [iblk0, idx0 t]

/-- Window 3's block at a grid point: a whole batch. -/
theorem iblk0_3 (c : Dev nD) (t : Fin cfg0.N) (j : Fin 2048) (f : Fin 64) (b : Fin 12)
    (hb : b.val = (grid0.coords t 0).val) :
    iblk0 V c 3 t (ix3 0 j f) = V c (arrRef spec0 3) (ix3 b j f) := by
  blk_ext [iblk0, idx0 t]

/-- Where an entry of output 4's block lies in the array. -/
theorem emb0_4 (t : Fin cfg0.N) (y : (win0_4.xblock (grid0.coords t)).Idx) :
    ((((View.whole main_v3_0).slice (win0_4.rect t)).emb y) 0).val = (grid0.coords t 0).val
    ∧ ((((View.whole main_v3_0).slice (win0_4.rect t)).emb y) 1).val = 128 * (grid0.coords t 1).val + (y 1).val
    ∧ ((((View.whole main_v3_0).slice (win0_4.rect t)).emb y) 2).val = (y 2).val := by
  blk_simp [idx0 t]
  exact ⟨trivial, by omega, trivial⟩

/-- Where an entry of output 5's block lies in the array. -/
theorem emb0_5 (t : Fin cfg0.N) (y : (win0_5.xblock (grid0.coords t)).Idx) :
    ((((View.whole main_v3_1).slice (win0_5.rect t)).emb y) 0).val = (grid0.coords t 0).val
    ∧ ((((View.whole main_v3_1).slice (win0_5.rect t)).emb y) 1).val = 128 * (grid0.coords t 1).val + (y 1).val
    ∧ ((((View.whole main_v3_1).slice (win0_5.rect t)).emb y) 2).val = (y 2).val := by
  blk_simp [idx0 t]
  exact ⟨trivial, by omega, trivial⟩

/-- The first pass leaves in its first output the ranks of its third input's positions. -/
theorem arr0_4 (c : Dev nD) (Q K : S12x2048x64.Idx → EReal) (h0 : V c (arrRef spec0 0) = Q) (h1 : V c (arrRef spec0 1) = K)
    (h2 : V c (arrRef spec0 2) = Q) (h3 : V c (arrRef spec0 3) = K) : (dat0 (F := Ideal) V c).arrAt 4 cfg0.N = rankWords Q := by
  refine (dat0 (F := Ideal) V c).arrAt_eq_of_covers 4 _ (by decide +kernel) fun t hf y => ?_
  blk_simp
  rw [after0_4]
  unfold outsAt0 out0_A_4
  frame_out [kernelRun0_A]
  refine (pay5_at _ y).trans ?_
  obtain ⟨e0, e1, e2⟩ := emb0_4 t y
  generalize ((View.whole main_v3_0).slice (win0_4.rect t)).emb y = e at *
  have hQ (f : Fin 64) : iblk0 V c 0 t (ix3 0 (y 1) f) = iblk0 V c 2 t (ix3 0 (e 1) f) :=
    (iblk0_0 V c t (y 1) f (e 0) (e 1) e0 e1).trans ((congrFun (h0.trans h2.symm) _).trans (iblk0_2 V c t (e 1) f (e 0) e0).symm)
  have hK (f : Fin 64) : iblk0 V c 1 t (ix3 0 (y 1) f) = iblk0 V c 3 t (ix3 0 (e 1) f) :=
    (iblk0_1 V c t (y 1) f (e 0) (e 1) e0 e1).trans ((congrFun (h1.trans h3.symm) _).trans (iblk0_3 V c t (e 1) f (e 0) e0).symm)
  rw [show Scf.trips (0#32) (Scalar.addi 0#32 16#32) 1#32 = 16 from by decide +kernel]
  refine (loop0 Variants.none c none (grid0.coords t) _ _ _ _ _ _ _ _ _ _ _ _ (iblk0 V c 0 t) (iblk0 V c 1 t) (iblk0 V c 2 t)
    (iblk0 V c 3 t) (y 1) (y 2) (e 1) e1 (hQ _) (hK _) 16 (Nat.le_refl 16)).1.trans ?_
  refine (marks_all _ _).trans (congrArg (fun x : Col => BitVec.ofNat 32 (rank x (e 1))) ?_)
  funext j
  refine (iblk0_2 V c t j (y 2) (e 0) e0).trans ((congrFun h2 _).trans (congrArg Q ?_))
  exact congrArg (ix3 (e 0) j) (Fin.ext e2.symm)

/-- The first pass leaves in its second output the ranks of its fourth input's positions. -/
theorem arr0_5 (c : Dev nD) (Q K : S12x2048x64.Idx → EReal) (h0 : V c (arrRef spec0 0) = Q) (h1 : V c (arrRef spec0 1) = K)
    (h2 : V c (arrRef spec0 2) = Q) (h3 : V c (arrRef spec0 3) = K) : (dat0 (F := Ideal) V c).arrAt 5 cfg0.N = rankWords K := by
  refine (dat0 (F := Ideal) V c).arrAt_eq_of_covers 5 _ (by decide +kernel) fun t hf y => ?_
  blk_simp
  rw [after0_5]
  unfold outsAt0 out0_A_5
  frame_out [kernelRun0_A]
  refine (pay6_at _ y).trans ?_
  obtain ⟨e0, e1, e2⟩ := emb0_5 t y
  generalize ((View.whole main_v3_1).slice (win0_5.rect t)).emb y = e at *
  have hQ (f : Fin 64) : iblk0 V c 0 t (ix3 0 (y 1) f) = iblk0 V c 2 t (ix3 0 (e 1) f) :=
    (iblk0_0 V c t (y 1) f (e 0) (e 1) e0 e1).trans ((congrFun (h0.trans h2.symm) _).trans (iblk0_2 V c t (e 1) f (e 0) e0).symm)
  have hK (f : Fin 64) : iblk0 V c 1 t (ix3 0 (y 1) f) = iblk0 V c 3 t (ix3 0 (e 1) f) :=
    (iblk0_1 V c t (y 1) f (e 0) (e 1) e0 e1).trans ((congrFun (h1.trans h3.symm) _).trans (iblk0_3 V c t (e 1) f (e 0) e0).symm)
  rw [show Scf.trips (0#32) (Scalar.addi 0#32 16#32) 1#32 = 16 from by decide +kernel]
  refine (loop0 Variants.none c none (grid0.coords t) _ _ _ _ _ _ _ _ _ _ _ _ (iblk0 V c 0 t) (iblk0 V c 1 t) (iblk0 V c 2 t)
    (iblk0 V c 3 t) (y 1) (y 2) (e 1) e1 (hQ _) (hK _) 16 (Nat.le_refl 16)).2.trans ?_
  refine (marks_all _ _).trans (congrArg (fun x : Col => BitVec.ofNat 32 (rank x (e 1))) ?_)
  funext j
  refine (iblk0_3 V c t j (y 2) (e 0) e0).trans ((congrFun h3 _).trans (congrArg K ?_))
  exact congrArg (ix3 (e 0) j) (Fin.ext e2.symm)

end Cert.KernelIdeal.Gen

end
-- ==== Proof.PairLoop.lean ====
module

public import proofs.«01_k».proof.Proof.RankBlock

@[expose] public section

set_option maxRecDepth 16384

noncomputable section

namespace Cert.KernelIdeal.Gen

open Idealize.ShloMosaic Idealize.ShloMosaic.TcCoe Idealize.ShloMosaic.Tactic Idealize.ShloMosaic.Pipeline
open Cert.Ranks Cert.Chunks

/-- One trip of the pairing loop, at one element of the paired-value accumulator: the values whose rank is the row's. -/
theorem pair5_raw (v0 : Vec Ideal S1x128x64 .i32) (acc : FVec Ideal S128x64 .f32) (v860 : Vec Ideal S1x128x64 .f32)
    (v865 : Vec Ideal S1x128x64 .i32) (j : S128x64.Idx) : k1_pay5 v0 acc v860 v865 j = acc j +
      ∑ x : Fin 128, Scalar.select (IntOp.cmpi CmpIPredicate.eq (v865 (ix3 0 x (j 1))) (v0 (ix3 0 (j 0) (j 1)))) (v860 (ix3 0 x (j 1))) (0 : EReal) := by
  idx_vars j
  pointwise [k1_pay5, k1_pay4]

/-- One trip of the pairing loop, at one element of the paired-position accumulator: the positions whose rank is the row's. -/
theorem pair6_raw (v0 : Vec Ideal S1x128x64 .i32) (k : Fin k1_t1_loop.trips) (acc : IVec S128x64 32)
    (v865 : Vec Ideal S1x128x64 .i32) (j : S128x64.Idx) : k1_pay6 (F := Ideal) v0 k acc v865 j = IntOp.addi (acc j)
      (Finset.fold IntOp.addi 0#32 (fun x : Fin 128 =>
          Scalar.select (IntOp.cmpi CmpIPredicate.eq (v865 (ix3 0 x (j 1))) (v0 (ix3 0 (j 0) (j 1))))
            (IntOp.addi (Scalar.muli (Scf.iv 0#32 1#32 k.val) 128#32) (BitVec.ofNat 32 x.val)) 0#32) Finset.univ) := by
  idx_vars j
  pointwise [k1_pay6, k1_pay4]

/-- The value position `j` contributes to the pairing: its value if its rank word is `w`, else zero. -/
def hitVal (K : Fin 2048 → EReal) (R : Fin 2048 → BitVec 32) (w : BitVec 32) (j : Fin 2048) : EReal :=
  Scalar.select (IntOp.cmpi CmpIPredicate.eq (R j) w) (K j) 0

/-- The word position `j` contributes to the pairing: its own if its rank word is `w`, else zero. -/
def hitPos (R : Fin 2048 → BitVec 32) (w : BitVec 32) (j : Fin 2048) : BitVec 32 :=
  Scalar.select (IntOp.cmpi CmpIPredicate.eq (R j) w) (BitVec.ofNat 32 j.val) 0#32

/-- A trip's load reads 128 positions of the whole-batch block. -/
theorem load1 {e : EltTy} (m : Memref sig .tc .vmem S1x2048x64 e) (hm : m.IsWhole) (X : Vec Ideal S1x2048x64 e)
    (k : Fin k1_t1_loop.trips) (l : Fin 128) (f : Fin 64) (h : ∀ a, (k1_off1 k) a + S1x128x64.size a ≤ S1x2048x64.size a) (hl : 128 * k.val + l.val < 2048) :
    View.readAt (Elt Ideal) m.view (Rect.unit (s := S1x2048x64) (k1_off1 k) S1x128x64.size h).toLoadRect (hm.unread X) (ix3 0 l f)
      = X (ix3 0 ⟨128 * k.val + l.val, hl⟩ f) := by
  rw [hm.readAt_unread]
  refine congrArg X ?_
  funext a
  apply Fin.ext
  have e := congrFun (k1_off1_eq k) a
  fin_cases a <;> simp [Rect.unit, LoadRect.idx] at e ⊢
  all_goals first | exact e | omega

/-- One trip adds its 128 positions' values. -/
theorem pair5_at (v0 : Vec Ideal S1x128x64 .i32) (acc : FVec Ideal S128x64 .f32) (v860 : Vec Ideal S1x128x64 .f32)
    (v865 : Vec Ideal S1x128x64 .i32) (K : Fin 2048 → EReal) (R : Fin 2048 → BitVec 32) (w : BitVec 32) (n : ℕ) (hn : n < 16)
    (r : Fin 128) (f : Fin 64) (s : EReal) (hs : acc (ix2 r f) = s) (hw : v0 (ix3 0 r f) = w)
    (hK : ∀ l : Fin 128, v860 (ix3 0 l f) = K ⟨128 * n + l.val, by have := l.isLt; omega⟩)
    (hR : ∀ l : Fin 128, v865 (ix3 0 l f) = R ⟨128 * n + l.val, by have := l.isLt; omega⟩) :
    k1_pay5 v0 acc v860 v865 (ix2 r f) = s + ∑ l : Fin 128, hitVal K R w ⟨128 * n + l.val, by have := l.isLt; omega⟩ := by
  refine (pair5_raw v0 acc v860 v865 (ix2 r f)).trans ?_
  subst hs
  refine congrArg (fun z : EReal => (acc (ix2 r f) : EReal) + z) (Finset.sum_congr rfl fun l _ => ?_)
  unfold hitVal
  rw [← hw, ← hK l, ← hR l]
  rfl

/-- One trip adds its 128 positions' words. -/
theorem pair6_at (v0 : Vec Ideal S1x128x64 .i32) (k : Fin k1_t1_loop.trips) (acc : IVec S128x64 32)
    (v865 : Vec Ideal S1x128x64 .i32) (R : Fin 2048 → BitVec 32) (w : BitVec 32) (hn : k.val < 16)
    (r : Fin 128) (f : Fin 64) (s : BitVec 32) (hs : acc (ix2 r f) = s) (hw : v0 (ix3 0 r f) = w)
    (hR : ∀ l : Fin 128, v865 (ix3 0 l f) = R ⟨128 * k.val + l.val, by have := l.isLt; omega⟩) :
    k1_pay6 (F := Ideal) v0 k acc v865 (ix2 r f) = s + ∑ l : Fin 128, hitPos R w ⟨128 * k.val + l.val, by have := l.isLt; omega⟩ := by
  refine (pair6_raw v0 k acc v865 (ix2 r f)).trans ?_
  subst hs
  rw [fold_addi, addi_add]
  refine congrArg (fun z : BitVec 32 => acc (ix2 r f) + z) (Finset.sum_congr rfl fun l _ => ?_)
  unfold hitPos
  rw [← hw, ← hR l, ← pos_word]
  rfl

/-- The pairing loop makes sixteen trips. -/
theorem trips1 : k1_t1_loop.trips = 16 := by decide +kernel

section
variable (𝒱 : Variants) (c : Dev nD) (bd : Option 𝒱.V) (i : grid1.Coords)
  (m2 : Memref sig .tc .vmem S1x128x64 .f32) (h2 : m2.IsWhole) (m3 : Memref sig .tc .vmem S1x128x64 .i32) (h3 : m3.IsWhole)
  (m4 : Memref sig .tc .vmem S1x2048x64 .f32) (h4 : m4.IsWhole) (m5 : Memref sig .tc .vmem S1x2048x64 .i32) (h5 : m5.IsWhole)
  (m6 : Memref sig .tc .vmem S1x128x2048 .i32) (h6 : m6.IsWhole) (m7 : Memref sig .tc .vmem S1x128x2048 .f32) (h7 : m7.IsWhole)
  (v0 : Vec Ideal S1x128x64 .i32) (X : Vec Ideal S1x2048x64 .f32) (Y : Vec Ideal S1x2048x64 .i32)

/-- The two accumulators after `n` trips, at row `r` and feature `f`: each sums what the first `128 n` positions contribute. -/
theorem loop1 (r : Fin 128) (f : Fin 64) : ∀ n : ℕ, n ≤ 16 →
    (st_k1_t1 (F := Ideal) 𝒱 c bd i m2 h2 m3 h3 m4 h4 m5 h5 m6 h6 m7 h7 v0 (h4.unread X) (h5.unread Y) (k1_pay2, k1_pay3) n).1 (ix2 r f)
        = upTo (hitVal (fun j => X (ix3 0 j f)) (fun j => Y (ix3 0 j f)) (v0 (ix3 0 r f))) (128 * n)
      ∧ (st_k1_t1 (F := Ideal) 𝒱 c bd i m2 h2 m3 h3 m4 h4 m5 h5 m6 h6 m7 h7 v0 (h4.unread X) (h5.unread Y) (k1_pay2, k1_pay3) n).2 (ix2 r f)
        = upTo (hitPos (fun j => Y (ix3 0 j f)) (v0 (ix3 0 r f))) (128 * n)
  | 0, _ => by
    rw [st_k1_t1_zero, Nat.mul_zero, upTo_zero, upTo_zero]
    refine ⟨?_, rfl⟩
    pointwise [k1_pay2]
  | n + 1, hn => by
    obtain ⟨e1, e2⟩ := loop1 r f n (by omega)
    have hs := st_k1_t1_succ (F := Ideal) 𝒱 c bd i m2 h2 m3 h3 m4 h4 m5 h5 m6 h6 m7 h7 v0 (h4.unread X) (h5.unread Y)
      (k1_pay2, k1_pay3) ⟨n, by rw [trips1]; omega⟩
    rw [show (⟨n, by rw [trips1]; omega⟩ : Fin k1_t1_loop.trips).val + 1 = n + 1 from rfl] at hs
    rw [hs, upTo_succ _ n (by omega), upTo_succ _ n (by omega)]
    unfold tripR_k1_t1 trip_k1_t1
    dsimp only
    exact ⟨pair5_at v0 _ _ _ _ _ _ n (by omega) r f _ e1 rfl (fun l => load1 m4 h4 X _ l f _ _) (fun l => load1 m5 h5 Y _ l f _ _),
      pair6_at v0 ⟨n, by rw [trips1]; omega⟩ _ _ _ _ (by show n < 16; omega) r f _ e2 rfl (fun l => load1 m5 h5 Y _ l f _ _)⟩

end

end Cert.KernelIdeal.Gen

end
-- ==== Proof.PairArray.lean ====
module

public import proofs.«01_k».proof.Proof.PairLoop

@[expose] public section

set_option maxRecDepth 16384

noncomputable section

namespace Cert.KernelIdeal.Gen

open Idealize.ShloMosaic Idealize.ShloMosaic.TcCoe Idealize.ShloMosaic.Tactic Idealize.ShloMosaic.Pipeline
open Cert.Ranks Cert.Chunks

variable (V : (c : Dev nD) → (b : Ref sig .tc) → Buf (Elt Ideal) ((c : Thread nD τ).loc b))

/-- Which block each window of the second pass addresses at a grid point. -/
theorem idx1 : ∀ t : Fin cfg1.N, (win1_0.index t = ![(grid1.coords t 0).val, (grid1.coords t 1).val, 0])
    ∧ (win1_1.index t = ![(grid1.coords t 0).val, (grid1.coords t 1).val, 0]) ∧ (win1_2.index t = ![(grid1.coords t 0).val, 0, 0])
    ∧ (win1_3.index t = ![(grid1.coords t 0).val, 0, 0]) ∧ (win1_4.index t = ![(grid1.coords t 0).val, (grid1.coords t 1).val, 0])
    ∧ (win1_5.index t = ![(grid1.coords t 0).val, (grid1.coords t 1).val, 0]) := (by decide +kernel : ∀ t : Fin grid1.N, _)

/-- Window 0's block at a grid point: 128 rows of a batch. -/
theorem iblk1_0 (c : Dev nD) (t : Fin cfg1.N) (r : Fin 128) (f : Fin 64) (b : Fin 12) (q : Fin 2048)
    (hb : b.val = (grid1.coords t 0).val) (hq : q.val = 128 * (grid1.coords t 1).val + r.val) :
    iblk1 V c 0 t (ix3 0 r f) = V c (arrRef spec1 0) (ix3 b q f) := by
  blk_ext [iblk1, idx1 t]

/-- Window 1's block at a grid point: 128 rows of a batch. -/
theorem iblk1_1 (c : Dev nD) (t : Fin cfg1.N) (r : Fin 128) (f : Fin 64) (b : Fin 12) (q : Fin 2048)
    (hb : b.val = (grid1.coords t 0).val) (hq : q.val = 128 * (grid1.coords t 1).val + r.val) :
    iblk1 V c 1 t (ix3 0 r f) = V c (arrRef spec1 1) (ix3 b q f) := by
  blk_ext [iblk1, idx1 t]

/-- Window 2's block at a grid point: a whole batch. -/
theorem iblk1_2 (c : Dev nD) (t : Fin cfg1.N) (j : Fin 2048) (f : Fin 64) (b : Fin 12)
    (hb : b.val = (grid1.coords t 0).val) :
    iblk1 V c 2 t (ix3 0 j f) = V c (arrRef spec1 2) (ix3 b j f) := by
  blk_ext [iblk1, idx1 t]

/-- Window 3's block at a grid point: a whole batch. -/
theorem iblk1_3 (c : Dev nD) (t : Fin cfg1.N) (j : Fin 2048) (f : Fin 64) (b : Fin 12)
    (hb : b.val = (grid1.coords t 0).val) :
    iblk1 V c 3 t (ix3 0 j f) = V c (arrRef spec1 3) (ix3 b j f) := by
  blk_ext [iblk1, idx1 t]

/-- Window 4's block at a grid point: 128 rows of a batch of the mask. -/
theorem iblk1_4 (c : Dev nD) (t : Fin cfg1.N) (r : Fin 128) (p : Fin 2048) (b : Fin 12) (q : Fin 2048)
    (hb : b.val = (grid1.coords t 0).val) (hq : q.val = 128 * (grid1.coords t 1).val + r.val) :
    iblk1 V c 4 t (ix3 0 r p) = V c (arrRef spec1 4) (ix3 b q p) := by
  blk_ext [iblk1, idx1 t]

/-- Where an entry of the output's block lies in the array. -/
theorem emb1_5 (t : Fin cfg1.N) (y : (win1_5.xblock (grid1.coords t)).Idx) :
    ((((View.whole main_v5).slice (win1_5.rect t)).emb y) 0).val = (grid1.coords t 0).val
    ∧ ((((View.whole main_v5).slice (win1_5.rect t)).emb y) 1).val = 128 * (grid1.coords t 1).val + (y 1).val
    ∧ ((((View.whole main_v5).slice (win1_5.rect t)).emb y) 2).val = (y 2).val := by
  blk_simp [idx1 t]
  exact ⟨trivial, by omega, trivial⟩

/-- The similarity of two values, as the kernel's operations spell it. -/
def simil (q k : EReal) : EReal := Ideal.exp (0 - (q - k) * (q - k)) * Ideal.ofBits .f32 0x3C800000#32

/-- The similarity block at one element. -/
theorem simil_raw (kv : FVec Ideal S128x64 .f32) (q : Vec Ideal S1x128x64 .f32) (j : S128x64.Idx) : k1_pay7 kv q j = simil (q (ix3 0 (j 0) (j 1))) (kv j) := by
  idx_vars j
  unfold simil
  pointwise [k1_pay7]

/-- The second pass's result from its five inputs: at a batch, a row and a column, zero where the mask is set, elsewhere
the similarities of the features whose paired position is the column. -/
def pairArr (Q : S12x2048x64.Idx → EReal) (RQ : S12x2048x64.Idx → BitVec 32) (K : S12x2048x64.Idx → EReal)
    (RK : S12x2048x64.Idx → BitVec 32) (M : S12x2048x2048.Idx → BitVec 32) : S12x2048x2048.Idx → EReal := fun j =>
  Scalar.select (IntOp.cmpi CmpIPredicate.ne (M j) 0#32) (0 : EReal) (∑ f : Fin 64,
    Scalar.select (IntOp.cmpi CmpIPredicate.eq (∑ p, hitPos (fun p => RK (ix3 (j 0) p f)) (RQ (ix3 (j 0) (j 1) f)) p) (BitVec.ofNat 32 (j 2).val))
      (simil (Q (ix3 (j 0) (j 1) f)) (∑ p, hitVal (fun p => K (ix3 (j 0) p f)) (fun p => RK (ix3 (j 0) p f)) (RQ (ix3 (j 0) (j 1) f)) p)) (0 : EReal))

/-- A sum of 64 terms, written as the sum of the first 64 values of a function of the natural numbers. -/
theorem sum64 (g : Fin 64 → EReal) : ∑ f, g f = ∑ n ∈ Finset.range 64, g (Fin.ofNat 64 n) := by
  rw [Finset.sum_range]
  refine Finset.sum_congr rfl fun f _ => congrArg g ?_
  apply Fin.ext
  simp [Fin.ofNat, Nat.mod_eq_of_lt f.isLt]

/-- The second pass leaves `pairArr` of its inputs in its output. -/
theorem arr1_5 (c : Dev nD) (Q : S12x2048x64.Idx → EReal) (RQ : S12x2048x64.Idx → BitVec 32) (K : S12x2048x64.Idx → EReal)
    (RK : S12x2048x64.Idx → BitVec 32) (M : S12x2048x2048.Idx → BitVec 32) (h0 : V c (arrRef spec1 0) = Q) (h1 : V c (arrRef spec1 1) = RQ)
    (h2 : V c (arrRef spec1 2) = K) (h3 : V c (arrRef spec1 3) = RK) (h4 : V c (arrRef spec1 4) = M) :
    (dat1 (F := Ideal) V c).arrAt 5 cfg1.N = pairArr Q RQ K RK M := by
  refine (dat1 (F := Ideal) V c).arrAt_eq_of_covers 5 _ (by decide +kernel) fun t hf y => ?_
  blk_simp
  rw [after1_5]
  unfold outsAt1 out1_A_5
  frame_out [kernelRun1_A]
  rw [show Scf.trips (0#32) (Scalar.addi 0#32 16#32) 1#32 = 16 from by decide +kernel]
  obtain ⟨e0, e1, e2⟩ := emb1_5 t y
  generalize ((View.whole main_v5).slice (win1_5.rect t)).emb y = e at *
  have hL (f : Fin 64) := loop1 Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 1 t) (iblk1 V c 2 t)
    (iblk1 V c 3 t) (y 1) f 16 (Nat.le_refl 16)
  have hE : (ix3 (e 0) (e 1) (y 2) : S12x2048x2048.Idx) = e := by
    funext a
    match a with
    | ⟨0, _⟩ => rfl
    | ⟨1, _⟩ => rfl
    | ⟨2, _⟩ => exact Fin.ext e2.symm
    | ⟨n + 3, h⟩ => exact absurd h (by simp)
  generalize st_k1_t1 Variants.none c none (grid1.coords t) (ms1_0 t) _ (ms1_1 t) _ (ms1_2 t) _ (ms1_3 t) _ (ms1_4 t) _ (ms1_5 t) _ (iblk1 V c 1 t) _ _ _ _ = st at *
  obtain ⟨kv, cc⟩ := st
  dsimp only at *
  have hQ (f : Fin 64) : iblk1 V c 0 t (ix3 0 (y 1) f) = Q (ix3 (e 0) (e 1) f) :=
    (iblk1_0 V c t (y 1) f (e 0) (e 1) e0 e1).trans (congrFun h0 _)
  have hRQ (f : Fin 64) : iblk1 V c 1 t (ix3 0 (y 1) f) = RQ (ix3 (e 0) (e 1) f) :=
    (iblk1_1 V c t (y 1) f (e 0) (e 1) e0 e1).trans (congrFun h1 _)
  have hK (j : Fin 2048) (f : Fin 64) : iblk1 V c 2 t (ix3 0 j f) = K (ix3 (e 0) j f) :=
    (iblk1_2 V c t j f (e 0) e0).trans (congrFun h2 _)
  have hRK (j : Fin 2048) (f : Fin 64) : iblk1 V c 3 t (ix3 0 j f) = RK (ix3 (e 0) j f) :=
    (iblk1_3 V c t j f (e 0) e0).trans (congrFun h3 _)
  have hM : iblk1 V c 4 t (ix3 0 (y 1) (y 2)) = M e :=
    (iblk1_4 V c t (y 1) (y 2) (e 0) (e 1) e0 e1).trans ((congrFun h4 _).trans (congrArg M hE))
  generalize iblk1 V c 0 t = qb at *
  generalize iblk1 V c 1 t = rqb at *
  generalize iblk1 V c 2 t = kb at *
  generalize iblk1 V c 3 t = rkb at *
  generalize iblk1 V c 4 t = msk at *
  refine Eq.trans (b := Scalar.select (IntOp.cmpi CmpIPredicate.ne (msk (ix3 0 (y 1) (y 2))) 0#32) (0 : EReal) (∑ f : Fin 64,
    Scalar.select (IntOp.cmpi CmpIPredicate.eq (cc (ix2 (y 1) f)) (BitVec.ofNat 32 (y 2).val)) (k1_pay7 kv qb (ix2 (y 1) f) : EReal) (0 : EReal))) ?_ ?_
  · clear hL hQ hRQ hK hRK hM e0 e1 e2 h0 h1 h2 h3 h4
    idx_vars y
    pointwise [k1_pay1, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
    rw [sum64]
    simp only [Finset.sum_range_succ, Finset.sum_range_zero, zero_add]
    rfl
  · unfold pairArr
    rw [hM, e2.symm]
    refine congrArg (fun z : EReal => Scalar.select (IntOp.cmpi CmpIPredicate.ne (M e) 0#32) (0 : EReal) z) (Finset.sum_congr rfl fun f _ => ?_)
    have hk := (hL f).1
    have hc := (hL f).2
    rw [show 128 * 16 = 2048 from rfl, upTo_all] at hk hc
    simp only [hRQ, hK, hRK] at hk hc
    rw [hc, simil_raw, hk]
    rw [← hQ f]
    rfl

end Cert.KernelIdeal.Gen

end
-- ==== Proof.KernelRun.lean ====
module

public import proofs.«01_k».proof.Proof.Gen.KernelIdeal.Frame

@[expose] public section

noncomputable section

namespace Cert.KernelIdeal.Gen

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program, run from any memory with zero counters: it terminates with the result array holding what the
    last boundary's contents say, and the three argument arrays as launched. -/
theorem run_result : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Gen

end
-- ==== Proof.KernelValue.lean ====
module

public import proofs.«01_k».proof.Proof.RankArray
public import proofs.«01_k».proof.Proof.PairArray
public import proofs.«01_k».proof.Proof.KernelRun
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.ShloMosaic.Pipeline

variable (m : (ℓ : Loc nD τ sig) → Buf (Elt Ideal) ℓ) (ρ : Dev nD → PrngReg)

/-- The queries as the passes read them: the first argument without its leading axis of one. -/
def qArr (c : Dev nD) : S12x2048x64.Idx → EReal := shapeCast S12x2048x64 (m ((c : Thread nD τ).loc main_arg0)) shapeCasts_S1x12x2048x64_S12x2048x64

/-- The keys likewise. -/
def kArr (c : Dev nD) : S12x2048x64.Idx → EReal := shapeCast S12x2048x64 (m ((c : Thread nD τ).loc main_arg1)) shapeCasts_S1x12x2048x64_S12x2048x64

/-- The mask as the second pass reads it: words zero or one. -/
def mArr (c : Dev nD) : S12x2048x2048.Idx → BitVec 32 :=
  extui 32 (shapeCast S12x2048x2048 (m ((c : Thread nD τ).loc main_arg2)) shapeCasts_S1x12x2048x2048_S12x2048x2048) natLt_1_32

/-- At the first pass the query buffer holds the queries. -/
theorem w1_q (c : Dev nD) : W1 m ρ c (Proc.devRef .tc main_v0) = qArr m c := by
  unfold qArr
  rfl
/-- At the first pass the key buffer holds the keys. -/
theorem w1_k (c : Dev nD) : W1 m ρ c (Proc.devRef .tc main_v1) = kArr m c := by
  unfold kArr
  rfl

/-- The first pass's outputs, held to the second. -/
theorem w2_rq (c : Dev nD) : W2 m ρ c (Proc.devRef .tc main_v3_0) = rankWords (qArr m c) :=
  (W2_arr m ρ c 4).trans (arr0_4 (V1 m ρ) c _ _ (w1_q m ρ c) (w1_k m ρ c) (w1_q m ρ c) (w1_k m ρ c))

/-- The second output of the first pass: the ranks of the keys. -/
theorem w2_rk (c : Dev nD) : W2 m ρ c (Proc.devRef .tc main_v3_1) = rankWords (kArr m c) :=
  (W2_arr m ρ c 5).trans (arr0_5 (V1 m ρ) c _ _ (w1_q m ρ c) (w1_k m ρ c) (w1_q m ρ c) (w1_k m ρ c))

/-- The mask after the first pass, still as bits. -/
theorem w2_m (c : Dev nD) : W2 m ρ c (Proc.devRef .tc main_v2) = shapeCast S12x2048x2048 (m ((c : Thread nD τ).loc main_arg2)) shapeCasts_S1x12x2048x2048_S12x2048x2048 := by
  refine (W2_of m ρ c main_v2 (by decide)).trans ?_
  rfl

/-- The mask as words, ready for the second pass. -/
theorem w3_m (c : Dev nD) : W3 m ρ c (Proc.devRef .tc main_v4) = mArr m c := by
  unfold mArr
  rw [← w2_m m ρ c]
  rfl

/-- The queries are unchanged before the second pass. -/
theorem w3_q (c : Dev nD) : W3 m ρ c (Proc.devRef .tc main_v0) = qArr m c :=
  (W3_of m ρ c main_v0 (by decide)).trans ((W2_of m ρ c main_v0 (by decide)).trans (w1_q m ρ c))

/-- The keys are unchanged before the second pass. -/
theorem w3_k (c : Dev nD) : W3 m ρ c (Proc.devRef .tc main_v1) = kArr m c :=
  (W3_of m ρ c main_v1 (by decide)).trans ((W2_of m ρ c main_v1 (by decide)).trans (w1_k m ρ c))

/-- The second pass leaves the pair array. -/
theorem w4_out (c : Dev nD) : W4 m ρ c (Proc.devRef .tc main_v5)
    = pairArr (qArr m c) (rankWords (qArr m c)) (kArr m c) (rankWords (kArr m c)) (mArr m c) :=
  (W4_arr m ρ c 5).trans (arr1_5 (V3 m ρ) c _ _ _ _ _ (w3_q m ρ c) ((W3_of m ρ c main_v3_0 (by decide)).trans (w2_rq m ρ c))
    (w3_k m ρ c) ((W3_of m ρ c main_v3_1 (by decide)).trans (w2_rk m ρ c)) (w3_m m ρ c))

/-- The program's result array. -/
theorem w5_out (c : Dev nD) : W5 m ρ c (Proc.devRef .tc main_v6) = shapeCast S1x12x2048x2048
    (pairArr (qArr m c) (rankWords (qArr m c)) (kArr m c) (rankWords (kArr m c)) (mArr m c)) shapeCasts_S12x2048x2048_S1x12x2048x2048 := by
  rw [← w4_out m ρ c]
  rfl

end Cert.KernelIdeal.Gen

end
-- ==== Proof.KernelMath.lean ====
module

public import proofs.«01_k».proof.Proof.KernelValue

@[expose] public section

set_option maxRecDepth 16384

noncomputable section

namespace Cert.KernelIdeal.Gen

open Idealize.ShloMosaic Idealize.ShloMosaic.TcCoe
open Cert.Ranks

/-- Words of two ranks are equal exactly when the ranks are. -/
theorem rank_word_eq (x y : Col) (p i : Fin 2048) :
    IntOp.cmpi .eq (BitVec.ofNat 32 (rank x p)) (BitVec.ofNat 32 (rank y i)) = BitVec.ofBool (decide (p = place x (rankF y i))) := by
  have h1 := rank_lt x p
  have h2 := rank_lt y i
  rw [WordCmp.cmpi_eq_ofNat (by omega) (by omega)]
  refine congrArg BitVec.ofBool (decide_eq_decide.2 ?_)
  refine Iff.trans ?_ ((rankF_eq_iff x p (rankF y i)).trans eq_comm)
  unfold rankF
  rw [Fin.mk.injEq]

/-- The key found for a query: the one whose rank among the keys is the query's among the queries. -/
theorem hit_value (k q : Col) (i : Fin 2048) :
    ∑ p, hitVal k (fun p => BitVec.ofNat 32 (rank k p)) (BitVec.ofNat 32 (rank q i)) p = k (place k (rankF q i)) := by
  unfold hitVal
  simp only [rank_word_eq, WordCmp.select_ofBool, decide_eq_true_eq]
  rw [Finset.sum_ite_eq' Finset.univ (place k (rankF q i)) k, if_pos (Finset.mem_univ _)]

/-- The position found likewise. -/
theorem hit_position (k q : Col) (i : Fin 2048) :
    ∑ p, hitPos (fun p => BitVec.ofNat 32 (rank k p)) (BitVec.ofNat 32 (rank q i)) p = BitVec.ofNat 32 (place k (rankF q i)).val := by
  unfold hitPos
  simp only [rank_word_eq, WordCmp.select_ofBool, decide_eq_true_eq]
  exact (Finset.sum_ite_eq' Finset.univ (place k (rankF q i)) fun p => BitVec.ofNat 32 p.val).trans (if_pos (Finset.mem_univ _))

/-- One feature of one batch, as a column over the positions. -/
def col (X : S12x2048x64.Idx → EReal) (b : Fin 12) (f : Fin 64) : Col := fun p => X (ix3 b p f)

/-- The kernel's array in closed form: zero under the mask, and otherwise the sum over the features of what the query contributes to the key of
    its own rank. -/
theorem pairArr_at (Q K : S12x2048x64.Idx → EReal) (M : S12x2048x2048.Idx → BitVec 32) (b : Fin 12) (i c : Fin 2048) :
    pairArr Q (rankWords Q) K (rankWords K) M (ix3 b i c)
      = Scalar.select (IntOp.cmpi .ne (M (ix3 b i c)) 0#32) (0 : EReal)
          (∑ f : Fin 64, if place (col K b f) (rankF (col Q b f) i) = c then simil (Q (ix3 b i f)) (K (ix3 b (place (col K b f) (rankF (col Q b f) i)) f)) else 0) := by
  unfold pairArr
  refine congrArg (Scalar.select (IntOp.cmpi .ne (M (ix3 b i c)) 0#32) (0 : EReal)) ?_
  refine Finset.sum_congr rfl fun f _ => ?_
  have hp := hit_position (col K b f) (col Q b f) i
  have hv := hit_value (col K b f) (col Q b f) i
  have h1 := (place (col K b f) (rankF (col Q b f) i)).isLt
  have h2 := c.isLt
  have hc := WordCmp.cmpi_eq_ofNat (w := 32) (a := (place (col K b f) (rankF (col Q b f) i)).val) (b := c.val) (by omega) (by omega)
  refine (congrArg₂ (fun w v => Scalar.select (IntOp.cmpi .eq w (BitVec.ofNat 32 c.val)) (simil (Q (ix3 b i f)) v) (0 : EReal)) hp hv).trans ?_
  rw [hc, WordCmp.select_ofBool]
  simp only [decide_eq_true_eq, Fin.val_inj]
  rfl

end Cert.KernelIdeal.Gen
-- ==== Proof.RefSort.lean ====
module

public import proofs.«01_k».proof.Proof.Gen.ReferenceIdeal.Run
public import proofs.«01_k».proof.Proof.Ranks
public import Idealize.ShloMosaic.Lib.Pipeline.ValueKit
public import Idealize.ShloMosaic.Lib.Pointwise
public import Idealize.ShloMosaic.Lib.WordCmp
public import Idealize.ShloMosaic.Lib.ReduceAll

@[expose] public section

set_option maxRecDepth 16384

noncomputable section

namespace Cert.ReferenceIdeal.Value

open Cert.ReferenceIdeal Cert.ReferenceIdeal.Gen Idealize.ShloMosaic Idealize.ShloMosaic.TcCoe
open Cert.Ranks

/-- An array of 12 batches, 2048 positions and 64 features. -/
abbrev Arr := S12x2048x64.Idx → EReal

/-- One feature of one batch, as a column over the positions. -/
def colOf (X : Arr) (b : Fin 12) (f : Fin 64) : Col := fun p => X (ix3 b p f)

/-- The positions in sorted order, as the reference computes them: a stable sort along the positions that carries their numbers. -/
def sortIdx (X : Arr) : S12x2048x64.Idx → BitVec 32 :=
  (Host.sort2 (α := Ideal .f32) S12x2048x64 1 comparator_f32_i32_d1 X (iotaInDim S12x2048x64 32 1)).2

/-- Choosing zero where a value equals zero changes nothing. -/
theorem canon_zero (x : EReal) :
    Scalar.select (FloatOps.cmpf (F := Ideal) (φ := .f32) .oeq x (FloatOps.ofBits .f32 0x00000000#32)) (FloatOps.ofBits (F := Ideal) .f32 0x00000000#32) x = x := by
  simp only [Ideal.cmpf_def, Ideal.cmp, WordCmp.select_ofBool, decide_eq_true_eq]
  split
  · rename_i h; exact h.symm
  · rfl

/-- No value differs from itself, so the choice for such values is never taken. -/
theorem canon_nan (x y z : EReal) : Scalar.select (FloatOps.cmpf (F := Ideal) (φ := .f32) .une x x) y z = z := by
  simp [Ideal.cmpf_def, Ideal.cmp, Scalar.select]

open Classical in
/-- The reference's comparison of two entries is whether the first value is smaller. -/
theorem cmp_eq (l r : EReal × BitVec 32) :
    (comparator_f32_i32_d1 (F := Ideal) l r == 1#1) = decide (l.1 < r.1) := by
  have e : comparator_f32_i32_d1 (F := Ideal) l r = BitVec.ofBool (decide (l.1 < r.1)) := by
    unfold comparator_f32_i32_d1
    dsimp only
    rw [canon_nan, canon_nan, canon_zero, canon_zero, Ideal.cmpfTotal_def]
    unfold Ideal.cmp
    congr
  rw [e]
  by_cases h : l.1 < r.1 <;> simp [h]

/-- The second result of a sort of two arrays, at an index. -/
theorem sort2_snd {s : Shape} {d : ℕ} (hd : d < s.rank) {α β : Type} (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- Moving an index along its middle axis replaces its middle coordinate. -/
theorem along_mid {n0 n1 n2 : ℕ} (b : Fin n0) (p k : Fin n1) (f : Fin n2) :
    Shape.Idx.along (s := ⟨3, ![n0, n1, n2]⟩) (ix3 b p f) (1 : Fin 3) k = ix3 b k f := by
  funext a
  match a with
  | ⟨0, _⟩ => rfl
  | ⟨1, _⟩ => rfl
  | ⟨2, _⟩ => rfl
  | ⟨n + 3, h⟩ => exact absurd h (by simp)

/-- A sort along the middle axis carrying the positions' numbers, read at an index: the position that the sort of the column puts there. -/
theorem argsort_mid {n0 n1 n2 : ℕ} {α : Type} (cmp : α × BitVec 32 → α × BitVec 32 → BitVec 1) (X : (⟨3, ![n0, n1, n2]⟩ : Shape).Idx → α)
    (b : Fin n0) (p : Fin n1) (f : Fin n2) :
    (Host.sort2 ⟨3, ![n0, n1, n2]⟩ 1 cmp X (iotaInDim ⟨3, ![n0, n1, n2]⟩ 32 1)).2 (ix3 b p f)
      = BitVec.ofNat 32 (sortedFrom (fun j i : Fin n1 =>
          cmp (X (ix3 b j f), BitVec.ofNat 32 j.val) (X (ix3 b i f), BitVec.ofNat 32 i.val) == 1#1) p).val := by
  refine (sort2_snd (s := ⟨3, ![n0, n1, n2]⟩) (d := 1) (show 1 < 3 by decide) _ _ _ _).trans ?_
  refine (congrArg (iotaInDim ⟨3, ![n0, n1, n2]⟩ 32 1) (along_mid b p _ f)).trans ?_
  refine congrArg (fun g : Fin n1 → Fin n1 → Bool => BitVec.ofNat 32 (sortedFrom g p).val) ?_
  funext j i
  have hj := along_mid b p j f
  have hi := along_mid b p i f
  exact congrArg₂ (fun u v => cmp (X u, iotaInDim ⟨3, ![n0, n1, n2]⟩ 32 1 u) (X v, iotaInDim ⟨3, ![n0, n1, n2]⟩ 32 1 v) == 1#1) hj hi

open Classical in
/-- The sorted positions are those of `place`, column by column. -/
theorem sortIdx_at (X : Arr) (b : Fin 12) (p : Fin 2048) (f : Fin 64) :
    sortIdx X (ix3 b p f) = BitVec.ofNat 32 (place (colOf X b f) p).val := by
  have h := argsort_mid (n0 := 12) (n1 := 2048) (n2 := 64) (α := EReal) (comparator_f32_i32_d1 (F := Ideal)) X b p f
  have e : (fun j i : Fin 2048 => comparator_f32_i32_d1 (F := Ideal) (X (ix3 b j f), BitVec.ofNat 32 j.val) (X (ix3 b i f), BitVec.ofNat 32 i.val) == 1#1)
      = fun j i => decide (colOf X b f j < colOf X b f i) := by
    funext j i
    exact cmp_eq _ _
  rw [e] at h
  exact h

end Cert.ReferenceIdeal.Value
-- ==== Proof.RefDims.lean ====
module

public import Idealize.ShloMosaic.Lib.Pipeline.ValueKit
public import Idealize.ShloMosaic.Lib.Pointwise

@[expose] public section

set_option maxRecDepth 16384

noncomputable section

namespace Cert.RefDims

open Idealize.ShloMosaic

/-- The dimension numbers of taking along the middle axis of three, one position for every entry of the result. -/
def midDims (n0 n1 n2 : ℕ) (h : GatherDims.WF ⟨3, ![n0, n1, n2]⟩ ⟨4, ![n0, n1, n2, 1]⟩ ⟨3, ![n0, n1, n2]⟩ [] [1] [0, 2] [1] [0, 2] 3 ![1, 1, 1]) :
    GatherDims ⟨3, ![n0, n1, n2]⟩ ⟨4, ![n0, n1, n2, 1]⟩ ⟨3, ![n0, n1, n2]⟩ where
  offsetDims := []
  collapsedSliceDims := [1]
  operandBatchingDims := [0, 2]
  startIndicesBatchingDims := [0, 2]
  startIndexMap := [1]
  indexVectorDim := 3
  sliceSizes := ![1, 1, 1]
  wf := h

/-- Taking along the middle axis, read at an index whose position word is in range. -/
theorem gather_mid {n0 n1 n2 : ℕ} {α : Type} (h) (x : (⟨3, ![n0, n1, n2]⟩ : Shape).Idx → α) (idx : IVec ⟨4, ![n0, n1, n2, 1]⟩ 32)
    (b : Fin n0) (p : Fin n1) (f : Fin n2) (k : Fin n1) (hk : (idx (ix4 b p f 0)).toInt = (k.val : ℤ)) :
    Host.gather (midDims n0 n1 n2 h) x idx (ix3 b p f) = x (ix3 b k f) := by
  unfold Host.gather
  refine congrArg x ?_
  funext a
  apply Fin.ext
  show (midDims n0 n1 n2 h).start (ix3 b p f) idx a + (midDims n0 n1 n2 h).batchCoord (ix3 b p f) a + (midDims n0 n1 n2 h).offCoord (ix3 b p f) a = _
  have hoff : ∀ a, (midDims n0 n1 n2 h).offCoord (ix3 b p f) a = 0 := by
    intro a
    refine GatherDims.offCoord_eq_zero _ _ _ fun hm => ?_
    have := (GatherDims.mem_sKept _ a).1 hm
    exact (by decide : ∀ a : Fin 3, ¬ (a ∉ ([1] : List (Fin 3)) ∧ a ∉ ([0, 2] : List (Fin 3)))) a this
  rw [hoff a, Nat.add_zero]
  match a with
  | ⟨0, _⟩ =>
    rw [GatherDims.start_batching _ _ _ _ (by show (0 : Fin 3) ∈ ([0, 2] : List (Fin 3)); decide), Nat.zero_add]
    rfl
  | ⟨2, _⟩ =>
    rw [GatherDims.start_batching _ _ _ _ (by show (2 : Fin 3) ∈ ([0, 2] : List (Fin 3)); decide), Nat.zero_add]
    rfl
  | ⟨1, _⟩ =>
    rw [GatherDims.batchCoord_eq_zero _ _ _ (by show (1 : Fin 3) ∉ ([0, 2] : List (Fin 3)); decide), Nat.add_zero]
    unfold GatherDims.start
    rw [dif_pos (by show (1 : Fin 3) ∈ ([1] : List (Fin 3)); decide)]
    have e : ∀ q, (midDims n0 n1 n2 h).siIdx (ix3 b p f) q = ix4 b p f 0 := by
      intro q
      funext c
      match c with
      | ⟨0, _⟩ => rfl
      | ⟨1, _⟩ => rfl
      | ⟨2, _⟩ => rfl
      | ⟨3, _⟩ => exact Fin.ext (Nat.lt_one_iff.1 (Fin.isLt _))
      | ⟨n + 4, h⟩ => exact absurd h (by simp)
    rw [e, hk, Int.toNat_natCast]
    show min k.val (n1 - 1) = k.val
    have := k.isLt
    omega
  | ⟨n + 3, h⟩ => exact absurd h (by simp)

/-- The dimension numbers of adding scalars into an array of three axes, each at the place its three words name. -/
def spotDims (n0 n1 n2 m0 m1 m2 : ℕ) (h : ScatterDims.WF ⟨3, ![n0, n1, n2]⟩ ⟨4, ![m0, m1, m2, 3]⟩ ⟨3, ![m0, m1, m2]⟩ [] [0, 1, 2] [0, 1, 2] 3) :
    ScatterDims ⟨3, ![n0, n1, n2]⟩ ⟨4, ![m0, m1, m2, 3]⟩ ⟨3, ![m0, m1, m2]⟩ where
  updateWindowDims := []
  insertedWindowDims := [0, 1, 2]
  scatterDimsToOperandDims := [0, 1, 2]
  indexVectorDim := 3
  wf := h

/-- An update lands exactly at the place its three words name. -/
theorem lands_spot {n0 n1 n2 m0 m1 m2 : ℕ} (h) (idx : IVec ⟨4, ![m0, m1, m2, 3]⟩ 32) (b : Fin m0) (p : Fin m1) (f : Fin m2)
    (r : Fin n0) (i : Fin n1) (c : Fin n2) :
    (spotDims n0 n1 n2 m0 m1 m2 h).resultIdx? (ix3 b p f) idx = some (ix3 r i c)
      ↔ (idx (ix4 b p f 0)).toInt = (r.val : ℤ) ∧ (idx (ix4 b p f 1)).toInt = (i.val : ℤ) ∧ (idx (ix4 b p f 2)).toInt = (c.val : ℤ) := by
  have hwin : ∀ a, (spotDims n0 n1 n2 m0 m1 m2 h).window (ix3 b p f) a = 0 := by
    intro a
    unfold ScatterDims.window
    rw [dif_neg]
    show a ∉ ([] : List (Fin 3))
    exact List.not_mem_nil
  have hst : ∀ a : Fin 3, (spotDims n0 n1 n2 m0 m1 m2 h).start (ix3 b p f) idx a = (idx (ix4 b p f a)).toInt := by
    intro a
    have hm : a ∈ (spotDims n0 n1 n2 m0 m1 m2 h).scatterDimsToOperandDims := by
      show a ∈ ([0, 1, 2] : List (Fin 3))
      revert a
      decide
    unfold ScatterDims.start
    rw [dif_pos hm]
    refine congrArg (fun j => (idx j).toInt) ?_
    funext d
    match d with
    | ⟨0, _⟩ => rfl
    | ⟨1, _⟩ => rfl
    | ⟨2, _⟩ => rfl
    | ⟨3, _⟩ =>
      apply Fin.ext
      exact (by decide : ∀ a : Fin 3, List.idxOf a ([0, 1, 2] : List (Fin 3)) = a.val) a
    | ⟨n + 4, h⟩ => exact absurd h (by simp)
  unfold ScatterDims.resultIdx?
  constructor
  · intro e
    split at e
    · rename_i hh
      have e := Option.some.inj e
      have h0 := congrArg Fin.val (congrFun e (0 : Fin 3))
      have h1 := congrArg Fin.val (congrFun e (1 : Fin 3))
      have h2 := congrArg Fin.val (congrFun e (2 : Fin 3))
      have g0 := (hh (0 : Fin 3)).1
      have g1 := (hh (1 : Fin 3)).1
      have g2 := (hh (2 : Fin 3)).1
      rw [hst, hwin] at g0 g1 g2
      dsimp only at h0 h1 h2
      rw [hst, hwin] at h0 h1 h2
      have k0 : ((ix3 r i c : (⟨3, ![n0, n1, n2]⟩ : Shape).Idx) (0 : Fin 3)).val = r.val := rfl
      have k1 : ((ix3 r i c : (⟨3, ![n0, n1, n2]⟩ : Shape).Idx) (1 : Fin 3)).val = i.val := rfl
      have k2 : ((ix3 r i c : (⟨3, ![n0, n1, n2]⟩ : Shape).Idx) (2 : Fin 3)).val = c.val := rfl
      refine ⟨?_, ?_, ?_⟩ <;> omega
    · exact absurd e (by simp)
  · rintro ⟨h0, h1, h2⟩
    have hv : ∀ a : Fin 3, (idx (ix4 b p f a)).toInt = (((ix3 r i c : (⟨3, ![n0, n1, n2]⟩ : Shape).Idx) a).val : ℤ) := by
      intro a
      match a with
      | ⟨0, _⟩ => exact h0
      | ⟨1, _⟩ => exact h1
      | ⟨2, _⟩ => exact h2
    rw [dif_pos]
    · refine congrArg some (funext fun a => Fin.ext ?_)
      dsimp only
      rw [hst, hwin, hv]
      simp
    · intro a
      rw [hst, hwin, hv]
      have := ((ix3 r i c : (⟨3, ![n0, n1, n2]⟩ : Shape).Idx) a).isLt
      constructor <;> omega

end Cert.RefDims
-- ==== Proof.RefTake.lean ====
module

public import proofs.«01_k».proof.Proof.RefSort
public import proofs.«01_k».proof.Proof.RefDims
public import Idealize.ShloMosaic.Lib.StableHlo.Predicate

@[expose] public section

set_option maxRecDepth 16384

noncomputable section

namespace Cert.ReferenceIdeal.Value

open Cert.ReferenceIdeal Cert.ReferenceIdeal.Gen Idealize.ShloMosaic Idealize.ShloMosaic.TcCoe
open Cert.Ranks

/-- Index words as the reference normalises them: a negative one counts from the end of an axis. -/
def wrap (n : BitVec 32) (I : S12x2048x64.Idx → BitVec 32) : S12x2048x64.Idx → BitVec 32 :=
  select (cmpi .slt I (broadcastInDim S12x2048x64 ![] bcast_S_S12x2048x64 (constantI S_ 32 0#32)))
    (addi I (broadcastInDim S12x2048x64 ![] bcast_S_S12x2048x64 (constantI S_ 32 n))) I

/-- A word that is a small number is not negative, so normalising leaves it. -/
theorem wrap_at (n : BitVec 32) (I : S12x2048x64.Idx → BitVec 32) (j : S12x2048x64.Idx) (k : ℕ) (hk : k < 2 ^ 31)
    (h : I j = BitVec.ofNat 32 k) : wrap n I j = BitVec.ofNat 32 k := by
  have e : wrap n I j = Scalar.select (IntOp.cmpi .slt (I j) (BitVec.ofNat 32 0)) (IntOp.addi (I j) n) (I j) := rfl
  rw [e, h, WordCmp.cmpi_slt_ofNat hk (by norm_num), WordCmp.select_ofBool]
  simp

/-- The normalised positions with a last axis of one, as the taking reads them. -/
def takeIdx (I : S12x2048x64.Idx → BitVec 32) : S12x2048x64x1.Idx → BitVec 32 :=
  shapeCast S12x2048x64x1 (wrap 2048#32 I) shapeCasts_S12x2048x64_S12x2048x64x1

/-- The last axis of one adds nothing. -/
theorem takeIdx_at (I : S12x2048x64.Idx → BitVec 32) (b : Fin 12) (p : Fin 2048) (f : Fin 64) (z : Fin 1) :
    takeIdx I (ix4 b p f z) = wrap 2048#32 I (ix3 b p f) := by
  unfold takeIdx
  generalize wrap 2048#32 I = W
  pointwise

/-- Whether each position is in range. -/
def takeOk (I : S12x2048x64.Idx → BitVec 32) : S12x2048x64.Idx → BitVec 1 :=
  Host.reduce IntOp.andi (andi (cmpi .sge (takeIdx I) (broadcastInDim S12x2048x64x1 ![] bcast_S_S12x2048x64x1 (constantI S_ 32 0#32)))
    (cmpi .sle (takeIdx I) (broadcastInDim S12x2048x64x1 ![0, 1, 2, 3] bcast_S1x1x1x1_S12x2048x64x1_0_1_2_3
      (broadcastInDim S1x1x1x1 ![3] bcast_S1_S1x1x1x1_3 (constantI S1 32 2047#32))))) (constantI S_ 1 1#1)
    reducesTo_S12x2048x64x1_S12x2048x64_d3 h_S_

/-- The reference's taking along the positions: the named entries, and a fixed value where a position is out of range. -/
def taken (X : Arr) (I : S12x2048x64.Idx → BitVec 32) : Arr :=
  select (takeOk I) (Host.gather gather_S12x2048x64_S12x2048x64x1_S12x2048x64_n_1_02_02_1_3_111 X (takeIdx I))
    (broadcastInDim S12x2048x64 ![] bcast_S_S12x2048x64 (constant (F := Ideal) S_ .f32 0x7FC00000#32))

/-- When every position word is a position, every one is in range. -/
theorem takeOk_at (I : S12x2048x64.Idx → BitVec 32) (g : Fin 12 → Fin 2048 → Fin 64 → Fin 2048)
    (h : ∀ b p f, I (ix3 b p f) = BitVec.ofNat 32 (g b p f).val) (j : S12x2048x64.Idx) : takeOk I j = 1#1 := by
  unfold takeOk
  refine Host.reduce_andi_one _ _ _ _ _ rfl fun i => ?_
  obtain ⟨b, p, f, z, rfl⟩ : ∃ b p f z, i = ix4 b p f z := ⟨i 0, i 1, i 2, i 3, eq_ix4 i⟩
  have hw : takeIdx I (ix4 b p f z) = BitVec.ofNat 32 (g b p f).val := by
    rw [takeIdx_at]
    exact wrap_at _ _ _ _ (by have := (g b p f).isLt; omega) (h b p f)
  have e : (andi (cmpi .sge (takeIdx I) (broadcastInDim S12x2048x64x1 ![] bcast_S_S12x2048x64x1 (constantI S_ 32 0#32)))
    (cmpi .sle (takeIdx I) (broadcastInDim S12x2048x64x1 ![0, 1, 2, 3] bcast_S1x1x1x1_S12x2048x64x1_0_1_2_3
      (broadcastInDim S1x1x1x1 ![3] bcast_S1_S1x1x1x1_3 (constantI S1 32 2047#32))))) (ix4 b p f z)
      = IntOp.andi (IntOp.cmpi .sge (takeIdx I (ix4 b p f z)) 0#32) (IntOp.cmpi .sle (takeIdx I (ix4 b p f z)) 2047#32) := rfl
  rw [e, hw]
  have hlt := (g b p f).isLt
  have ht := StableHlo.Predicate.toInt_ofNat_small (g b p f).val (by omega)
  refine IntOp.andi_eq_one.2 ⟨IntOp.cmpi_sge.2 ?_, IntOp.cmpi_sle.2 ?_⟩
  · rw [ht]
    have z0 : (0#32 : BitVec 32).toInt = 0 := by decide
    omega
  · rw [ht]
    have z0 : (2047#32 : BitVec 32).toInt = 2047 := by decide
    omega

/-- The entry taken is the one at the named position. -/
theorem taken_at (X : Arr) (I : S12x2048x64.Idx → BitVec 32) (g : Fin 12 → Fin 2048 → Fin 64 → Fin 2048)
    (h : ∀ b p f, I (ix3 b p f) = BitVec.ofNat 32 (g b p f).val) (b : Fin 12) (p : Fin 2048) (f : Fin 64) :
    taken X I (ix3 b p f) = X (ix3 b (g b p f) f) := by
  have e : taken X I (ix3 b p f) = Scalar.select (takeOk I (ix3 b p f))
      (Host.gather gather_S12x2048x64_S12x2048x64x1_S12x2048x64_n_1_02_02_1_3_111 X (takeIdx I) (ix3 b p f))
      (broadcastInDim S12x2048x64 ![] bcast_S_S12x2048x64 (constant (F := Ideal) S_ .f32 0x7FC00000#32) (ix3 b p f)) := rfl
  rw [e, takeOk_at I g h]
  refine Eq.trans (if_pos rfl) ?_
  refine RefDims.gather_mid gather_S12x2048x64_S12x2048x64x1_S12x2048x64_n_1_02_02_1_3_111_wf X (takeIdx I) b p f (g b p f) ?_
  have hlt := (g b p f).isLt
  rw [takeIdx_at, wrap_at _ _ _ _ (by omega) (h b p f)]
  exact StableHlo.Predicate.toInt_ofNat_small _ (by omega)

end Cert.ReferenceIdeal.Value
-- ==== Proof.RefValue.lean ====
module

public import proofs.«01_k».proof.Proof.RefTake

@[expose] public section

set_option maxRecDepth 16384

noncomputable section

namespace Cert.ReferenceIdeal.Value

open Cert.ReferenceIdeal Cert.ReferenceIdeal.Gen Idealize.ShloMosaic Idealize.ShloMosaic.TcCoe
open Cert.Ranks

/-- The batch numbers, over all positions and features. -/
def batchIdx : S12x2048x64.Idx → BitVec 32 :=
  broadcastInDim S12x2048x64 ![0, 1, 2] bcast_S12x1x1_S12x2048x64_0_1_2 (broadcastInDim S12x1x1 ![0] bcast_S12_S12x1x1_0 (iotaInDim S12 32 0))

/-- The batch number at an index is its first coordinate. -/
theorem batchIdx_at (b : Fin 12) (p : Fin 2048) (f : Fin 64) : batchIdx (ix3 b p f) = BitVec.ofNat 32 b.val := rfl

/-- Index words with a last axis of one. -/
def lastOne (I : S12x2048x64.Idx → BitVec 32) : S12x2048x64x1.Idx → BitVec 32 :=
  broadcastInDim S12x2048x64x1 ![0, 1, 2] bcast_S12x2048x64_S12x2048x64x1_0_1_2 I

/-- The last axis of one adds nothing. -/
theorem lastOne_at (I : S12x2048x64.Idx → BitVec 32) (b : Fin 12) (p : Fin 2048) (f : Fin 64) (z : Fin 1) :
    lastOne I (ix4 b p f z) = I (ix3 b p f) := by
  unfold lastOne
  pointwise

/-- The three words that name where each value is added: batch, query position, key position. -/
def spots (I J : S12x2048x64.Idx → BitVec 32) : S12x2048x64x3.Idx → BitVec 32 :=
  concatenate S12x2048x64x3 3 [⟨S12x2048x64x1, (lastOne (wrap 12#32 batchIdx) : (⟨S12x2048x64x1, .i32⟩ : BufTy).Contents (Elt Ideal))⟩,
    ⟨S12x2048x64x1, (lastOne (wrap 2048#32 I) : (⟨S12x2048x64x1, .i32⟩ : BufTy).Contents (Elt Ideal))⟩,
    ⟨S12x2048x64x1, (lastOne (wrap 2048#32 J) : (⟨S12x2048x64x1, .i32⟩ : BufTy).Contents (Elt Ideal))⟩]
    concatenates_S12x2048x64x1_S12x2048x64x1_S12x2048x64x1_S12x2048x64x3_d3

/-- The first word is the batch's, the second the query's, the third the key's. -/
theorem spots_at (I J : S12x2048x64.Idx → BitVec 32) (b : Fin 12) (p : Fin 2048) (f : Fin 64) :
    spots I J (ix4 b p f 0) = wrap 12#32 batchIdx (ix3 b p f) ∧ spots I J (ix4 b p f 1) = wrap 2048#32 I (ix3 b p f)
      ∧ spots I J (ix4 b p f 2) = wrap 2048#32 J (ix3 b p f) := by
  unfold spots
  rw [← lastOne_at (wrap 12#32 batchIdx) b p f 0, ← lastOne_at (wrap 2048#32 I) b p f 0, ← lastOne_at (wrap 2048#32 J) b p f 0]
  generalize lastOne (wrap 12#32 batchIdx) = A
  generalize lastOne (wrap 2048#32 I) = B
  generalize lastOne (wrap 2048#32 J) = C
  refine ⟨?_, ?_, ?_⟩ <;> pointwise

/-- The reference's array of sums before the division and the mask, from the positions and the values. -/
def summed (I J : S12x2048x64.Idx → BitVec 32) (U : Arr) : S12x2048x2048.Idx → EReal :=
  Host.scatterAdd (F := Ideal) (φ := .f32) scatter_S12x2048x2048_S12x2048x64x3_S12x2048x64_n_012_012_3
    (broadcastInDim S12x2048x2048 ![] bcast_S_S12x2048x2048 (constant (F := Ideal) S_ .f32 0x00000000#32)) (spots I J) U

/-- A batch, a query and a key collect the values whose positions name them. -/
theorem summed_at (I J : S12x2048x64.Idx → BitVec 32) (g h : Fin 12 → Fin 2048 → Fin 64 → Fin 2048)
    (hI : ∀ b p f, I (ix3 b p f) = BitVec.ofNat 32 (g b p f).val) (hJ : ∀ b p f, J (ix3 b p f) = BitVec.ofNat 32 (h b p f).val)
    (U : Arr) (r : Fin 12) (i c : Fin 2048) :
    summed I J U (ix3 r i c) = ∑ p : Fin 2048, ∑ f : Fin 64, if g r p f = i ∧ h r p f = c then U (ix3 r p f) else 0 := by
  classical
  have hl : ∀ (b : Fin 12) (p : Fin 2048) (f : Fin 64),
      (scatter_S12x2048x2048_S12x2048x64x3_S12x2048x64_n_012_012_3).resultIdx? (ix3 b p f) (spots I J) = some (ix3 r i c)
        ↔ b = r ∧ g b p f = i ∧ h b p f = c := by
    intro b p f
    refine (RefDims.lands_spot scatter_S12x2048x2048_S12x2048x64x3_S12x2048x64_n_012_012_3_wf (spots I J) b p f r i c).trans ?_
    obtain ⟨e0, e1, e2⟩ := spots_at I J b p f
    have hb := b.isLt
    have hg := (g b p f).isLt
    have hh := (h b p f).isLt
    rw [e0, e1, e2, wrap_at _ _ _ _ (by omega) (batchIdx_at b p f), wrap_at _ _ _ _ (by omega) (hI b p f), wrap_at _ _ _ _ (by omega) (hJ b p f),
      StableHlo.Predicate.toInt_ofNat_small _ (by omega), StableHlo.Predicate.toInt_ofNat_small _ (by omega),
      StableHlo.Predicate.toInt_ofNat_small _ (by omega)]
    simp only [Int.natCast_inj, Fin.val_inj]
  have e : summed I J U (ix3 r i c) = Ideal.ofBits .f32 0x00000000#32
      + ∑ j ∈ Finset.univ.filter (fun j => (scatter_S12x2048x2048_S12x2048x64x3_S12x2048x64_n_012_012_3).resultIdx? j (spots I J) = some (ix3 r i c)), U j := rfl
  rw [e, Finset.sum_filter, sum_idx3]
  simp only [hl]
  rw [Finset.sum_eq_single r]
  · simp
  · intro b _ hb
    simp [hb]
  · simp

/-- The value that one query and one key of a feature contribute. -/
def near (q k : EReal) : EReal := Ideal.exp (-((q - k) * (q - k)))

/-- That value over whole arrays, as the reference computes it. -/
def nears (X Y : Arr) : Arr :=
  Host.exp (F := Ideal) (φ := .f32) (Host.negf (F := Ideal) (φ := .f32)
    (mulf (F := Ideal) (φ := .f32) (subf (F := Ideal) (φ := .f32) X Y) (subf (F := Ideal) (φ := .f32) X Y)))

/-- Entry by entry. -/
theorem nears_at (X Y : Arr) (j : S12x2048x64.Idx) : nears X Y j = near (X j) (Y j) := rfl

/-- The reference's result, as a composition of its parts. -/
def refTerm (Q K : Arr) (M : S12x2048x2048.Idx → BitVec 1) : S12x2048x2048.Idx → EReal :=
  select M (broadcastInDim S12x2048x2048 ![] bcast_S_S12x2048x2048 (constant (F := Ideal) S_ .f32 0x00000000#32))
    (Host.divf (F := Ideal) (φ := .f32) (summed (sortIdx Q) (sortIdx K) (nears (taken Q (sortIdx Q)) (taken K (sortIdx K))))
      (broadcastInDim S12x2048x2048 ![] bcast_S_S12x2048x2048 (constant (F := Ideal) S_ .f32 0x42800000#32)))

/-- The reference's result at an index: zero under the mask, and otherwise the average over the features of what the pair contributes where
    the two have the same rank. -/
theorem refTerm_at (Q K : Arr) (M : S12x2048x2048.Idx → BitVec 1) (r : Fin 12) (i c : Fin 2048) :
    refTerm Q K M (ix3 r i c) = Scalar.select (M (ix3 r i c)) (Ideal.ofBits .f32 0x00000000#32)
      (Ideal.div (∑ p : Fin 2048, ∑ f : Fin 64, if place (colOf Q r f) p = i ∧ place (colOf K r f) p = c
        then near (Q (ix3 r (place (colOf Q r f) p) f)) (K (ix3 r (place (colOf K r f) p) f)) else 0) (Ideal.ofBits .f32 0x42800000#32)) := by
  have hQ := taken_at Q (sortIdx Q) (fun b p f => place (colOf Q b f) p) (sortIdx_at Q)
  have hK := taken_at K (sortIdx K) (fun b p f => place (colOf K b f) p) (sortIdx_at K)
  refine congrArg (fun s => Scalar.select (M (ix3 r i c)) (Ideal.ofBits .f32 0x00000000#32) (Ideal.div s (Ideal.ofBits .f32 0x42800000#32))) ?_
  refine (summed_at (sortIdx Q) (sortIdx K) (fun b p f => place (colOf Q b f) p) (fun b p f => place (colOf K b f) p)
    (sortIdx_at Q) (sortIdx_at K) _ r i c).trans ?_
  refine Finset.sum_congr rfl fun p _ => Finset.sum_congr rfl fun f _ => ?_
  refine if_congr Iff.rfl ?_ rfl
  rw [nears_at, hQ, hK]

end Cert.ReferenceIdeal.Value
-- ==== Proof.Equation.lean ====
module

public import proofs.«01_k».proof.Proof.KernelMath
public import proofs.«01_k».proof.Proof.RefValue

@[expose] public section

set_option maxRecDepth 16384

noncomputable section

namespace Cert.Equation

open Idealize.ShloMosaic
open Cert.Ranks
open Cert.KernelIdeal.Gen (pairArr rankWords simil col pairArr_at)
open Cert.ReferenceIdeal.Value (refTerm refTerm_at near colOf Arr)

/-- The divisor is 64. -/
theorem sixtyfour : Ideal.ofBits .f32 0x42800000#32 = ((64 : ℝ) : EReal) := by
  simp [Ideal.ofBits, Ideal.ieee, -EReal.coe_mul]; norm_num

/-- The factor is one in 64. -/
theorem one_in_sixtyfour : Ideal.ofBits .f32 0x3C800000#32 = ((1 / 64 : ℝ) : EReal) := by
  simp [Ideal.ofBits, Ideal.ieee, -EReal.coe_mul]; norm_num

/-- The exponential is not negative. -/
theorem exp_nonneg (x : EReal) : 0 ≤ Ideal.exp x := by
  induction x using EReal.rec with
  | bot => exact le_of_eq Ideal.exp_bot.symm
  | top => rw [Ideal.exp_top]; exact le_top
  | coe r => rw [Ideal.exp_coe]; exact EReal.coe_nonneg.2 (Real.exp_pos r).le

/-- What a pair contributes in the kernel is one in 64 of what it contributes in the reference. -/
theorem simil_eq (q k : EReal) : simil q k = near q k * ((1 / 64 : ℝ) : EReal) := by
  unfold simil near
  rw [one_in_sixtyfour, zero_sub]

/-- A sum of nonnegative values times a value is the sum of the products. -/
theorem sum_mul_nonneg {ι : Type} (s : Finset ι) (a : ι → EReal) (ha : ∀ i, 0 ≤ a i) (x : EReal) :
    (∑ i ∈ s, a i) * x = ∑ i ∈ s, a i * x := by
  classical
  induction s using Finset.induction_on with
  | empty => simp
  | insert i s hi ih =>
    rw [Finset.sum_insert hi, Finset.sum_insert hi, EReal.right_distrib_of_nonneg (ha i) (Finset.sum_nonneg fun j _ => ha j), ih]

/-- Over all sorted places, only the query's own rank has the query there. -/
theorem sum_places (x y : Col) (i c : Fin 2048) (w : Fin 2048 → Fin 2048 → EReal) :
    ∑ p : Fin 2048, (if place x p = i ∧ place y p = c then w (place x p) (place y p) else 0)
      = if place y (rankF x i) = c then w i (place y (rankF x i)) else 0 := by
  rw [Finset.sum_eq_single (rankF x i)]
  · rw [place_rankF]
    simp
  · intro p _ hp
    rw [if_neg]
    rintro ⟨h, _⟩
    exact hp ((rankF_eq_iff x i p).2 h).symm
  · intro h
    exact absurd (Finset.mem_univ _) h

/-- A mask word that is the mask's bit widened decides as the bit does. -/
theorem mask_word (b : BitVec 1) : IntOp.cmpi .ne (BitVec.setWidth 32 b) 0#32 = b := by
  revert b
  decide

/-- The kernel's array is the reference's. -/
theorem equation (Q K : Arr) (B : Cert.ReferenceIdeal.S12x2048x2048.Idx → BitVec 1) (M : Cert.KernelIdeal.S12x2048x2048.Idx → BitVec 32)
    (hM : ∀ j, M j = BitVec.setWidth 32 (B j)) : pairArr Q (rankWords Q) K (rankWords K) M = refTerm Q K B := by
  funext j
  obtain ⟨r, i, c, rfl⟩ : ∃ r i c, j = ix3 r i c := ⟨j 0, j 1, j 2, eq_ix3 j⟩
  refine (pairArr_at Q K M r i c).trans (Eq.trans ?_ (refTerm_at Q K B r i c).symm)
  rw [hM, mask_word, sixtyfour, Ideal.div_coe (by norm_num : (64 : ℝ) ≠ 0), Ideal.ofBits_zero_f32, Finset.sum_comm, sum_mul_nonneg]
  · refine congrArg (Scalar.select (B (ix3 r i c)) (0 : EReal)) (Finset.sum_congr rfl fun f _ => ?_)
    rw [sum_places (colOf Q r f) (colOf K r f) i c fun a b => near (Q (ix3 r a f)) (K (ix3 r b f)), ite_mul, zero_mul, ← simil_eq]
    rfl
  · intro f
    refine Finset.sum_nonneg fun p _ => ?_
    split
    · exact exp_nonneg _
    · exact le_rfl

end Cert.Equation
-- ==== Proof.Claims.lean ====
module

public import proofs.«01_k».proof.Defs
public import proofs.«01_k».proof.Proof.Equation
public import proofs.«01_k».proof.Proof.Gen.Kernel.Frame
public import Idealize.ShloMosaic.Lib.Claim

@[expose] public section

set_option maxRecDepth 16384

noncomputable section

namespace Cert.Claims

open Idealize.ShloMosaic Idealize.ShloMosaic.TcCoe Idealize.SL.Sem
open Cert.Equation

/-- The reference's composed result is `refTerm` of its arguments without their leading axis of one, that axis put back. -/
theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m c = shapeCast Cert.ReferenceIdeal.S1x12x2048x2048
      (Cert.ReferenceIdeal.Value.refTerm
        (shapeCast Cert.ReferenceIdeal.S12x2048x64 (m ((c.tc : Thread Cert.ReferenceIdeal.nD Cert.ReferenceIdeal.τ).loc Cert.ReferenceIdeal.main_arg0))
          Cert.ReferenceIdeal.Gen.facts.shapeCasts_S1x12x2048x64_S12x2048x64)
        (shapeCast Cert.ReferenceIdeal.S12x2048x64 (m ((c.tc : Thread Cert.ReferenceIdeal.nD Cert.ReferenceIdeal.τ).loc Cert.ReferenceIdeal.main_arg1))
          Cert.ReferenceIdeal.Gen.facts.shapeCasts_S1x12x2048x64_S12x2048x64)
        (shapeCast Cert.ReferenceIdeal.S12x2048x2048 (m ((c.tc : Thread Cert.ReferenceIdeal.nD Cert.ReferenceIdeal.τ).loc Cert.ReferenceIdeal.main_arg2))
          Cert.ReferenceIdeal.Gen.facts.shapeCasts_S1x12x2048x2048_S12x2048x2048))
      Cert.ReferenceIdeal.Gen.facts.shapeCasts_S12x2048x2048_S1x12x2048x2048 := by
  unfold Cert.ReferenceIdeal.Value.res_out0 Cert.ReferenceIdeal.Value.res_main_v38
  rfl

/-- The kernel as printed terminates without fault, leaves its arguments and every counter at zero. -/
theorem frame_kernel : Cert.quiescent_Kernel := fun m ρ _ => Cert.Kernel.Gen.frame m ρ

/-- The kernel over the extended reals likewise. -/
theorem frame_ideal : Cert.quiescent_KernelIdeal := fun m ρ _ => Cert.KernelIdeal.Gen.frame m ρ

/-- The reference over the extended reals likewise: it has no counters at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Nothing in the kernel was rewritten on the way to the extended reals. -/
theorem preserved : Cert.preserves_Kernel_KernelIdeal := trivial

/-- From arguments that agree, the kernel's result and the reference's are one array. -/
theorem results_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = Cert.KernelIdeal.Gen.W5 m ρ c (Proc.devRef .tc Cert.KernelIdeal.main_v6) := by
  rw [reference_result, h0, h1, h2, Cert.KernelIdeal.Gen.w5_out]
  have e := equation (Cert.KernelIdeal.Gen.qArr m c) (Cert.KernelIdeal.Gen.kArr m c)
    (shapeCast Cert.KernelIdeal.S12x2048x2048 (m ((c.tc : Thread Cert.KernelIdeal.nD Cert.KernelIdeal.τ).loc Cert.KernelIdeal.main_arg2))
      Cert.KernelIdeal.Gen.facts.shapeCasts_S1x12x2048x2048_S12x2048x2048)
    (Cert.KernelIdeal.Gen.mArr m c) (fun j => rfl)
  rw [e]
  rfl

/-- Kernel and reference compute the same function over the extended reals. -/
theorem same_function : Cert.algebraic_KernelIdeal_ReferenceIdeal := by
  intro m ρ m' ρ' _ hagree
  refine ⟨fun c => Cert.KernelIdeal.Gen.W5 m ρ c (Proc.devRef .tc Cert.KernelIdeal.main_v6), Cert.KernelIdeal.Gen.run_result m ρ, ?_⟩
  refine (θ_run Cert.ReferenceIdeal.defs _ _).mono (fun r h c => ?_) (Cert.ReferenceIdeal.Value.run (F := Ideal) m' ρ')
  obtain ⟨h0, h1, h2⟩ := hagree c
  exact ⟨(h c).1.trans (results_agree m ρ m' c h0 h1 h2), (h c).2⟩

end Cert.Claims
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The five claims: three frames, that the ideal program is the kernel, and that kernel and reference compute the same function. -/
theorem claim : Cert.Claim :=
  ⟨Cert.Kernel.Gen.facts, Cert.KernelIdeal.Gen.facts, Cert.ReferenceIdeal.Gen.facts, Cert.Claims.frame_kernel, Cert.Claims.frame_ideal,
    Cert.Claims.frame_reference, Cert.Claims.preserved, Cert.Claims.same_function⟩

end Cert.Proof

end
